-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_rolled_by_0_ReferenceIdeal [hPre_rolled_by_0_ReferenceIdeal : Cert.Pre_rolled_by_0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_1_ReferenceIdeal [hPre_rolled_by_1_ReferenceIdeal : Cert.Pre_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_2_ReferenceIdeal [hPre_rolled_by_2_ReferenceIdeal : Cert.Pre_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_3_ReferenceIdeal [hPre_rolled_by_3_ReferenceIdeal : Cert.Pre_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_4_ReferenceIdeal [hPre_rolled_by_4_ReferenceIdeal : Cert.Pre_rolled_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_5_ReferenceIdeal [hPre_rolled_by_5_ReferenceIdeal : Cert.Pre_rolled_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_6_ReferenceIdeal [hPre_rolled_by_6_ReferenceIdeal : Cert.Pre_rolled_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_7_ReferenceIdeal [hPre_rolled_by_7_ReferenceIdeal : Cert.Pre_rolled_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_8_ReferenceIdeal [hPre_rolled_by_8_ReferenceIdeal : Cert.Pre_rolled_by_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_9_ReferenceIdeal [hPre_rolled_by_9_ReferenceIdeal : Cert.Pre_rolled_by_9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_10_ReferenceIdeal [hPre_rolled_by_10_ReferenceIdeal : Cert.Pre_rolled_by_10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_11_ReferenceIdeal [hPre_rolled_by_11_ReferenceIdeal : Cert.Pre_rolled_by_11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_12_ReferenceIdeal [hPre_rolled_by_12_ReferenceIdeal : Cert.Pre_rolled_by_12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_13_ReferenceIdeal [hPre_rolled_by_13_ReferenceIdeal : Cert.Pre_rolled_by_13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_14_ReferenceIdeal [hPre_rolled_by_14_ReferenceIdeal : Cert.Pre_rolled_by_14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_15_ReferenceIdeal [hPre_rolled_by_15_ReferenceIdeal : Cert.Pre_rolled_by_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_16_ReferenceIdeal [hPre_rolled_by_16_ReferenceIdeal : Cert.Pre_rolled_by_16_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_16_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_17_ReferenceIdeal [hPre_rolled_by_17_ReferenceIdeal : Cert.Pre_rolled_by_17_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_17_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_18_ReferenceIdeal [hPre_rolled_by_18_ReferenceIdeal : Cert.Pre_rolled_by_18_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_18_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_19_ReferenceIdeal [hPre_rolled_by_19_ReferenceIdeal : Cert.Pre_rolled_by_19_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_19_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_20_ReferenceIdeal [hPre_rolled_by_20_ReferenceIdeal : Cert.Pre_rolled_by_20_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_20_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_21_ReferenceIdeal [hPre_rolled_by_21_ReferenceIdeal : Cert.Pre_rolled_by_21_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_21_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_22_ReferenceIdeal [hPre_rolled_by_22_ReferenceIdeal : Cert.Pre_rolled_by_22_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_22_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_23_ReferenceIdeal [hPre_rolled_by_23_ReferenceIdeal : Cert.Pre_rolled_by_23_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_23_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_24_ReferenceIdeal [hPre_rolled_by_24_ReferenceIdeal : Cert.Pre_rolled_by_24_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_24_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_25_ReferenceIdeal [hPre_rolled_by_25_ReferenceIdeal : Cert.Pre_rolled_by_25_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_25_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_26_ReferenceIdeal [hPre_rolled_by_26_ReferenceIdeal : Cert.Pre_rolled_by_26_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_26_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_27_ReferenceIdeal [hPre_rolled_by_27_ReferenceIdeal : Cert.Pre_rolled_by_27_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_27_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_28_ReferenceIdeal [hPre_rolled_by_28_ReferenceIdeal : Cert.Pre_rolled_by_28_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_28_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_29_ReferenceIdeal [hPre_rolled_by_29_ReferenceIdeal : Cert.Pre_rolled_by_29_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_29_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_30_ReferenceIdeal [hPre_rolled_by_30_ReferenceIdeal : Cert.Pre_rolled_by_30_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_30_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_31_ReferenceIdeal [hPre_rolled_by_31_ReferenceIdeal : Cert.Pre_rolled_by_31_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_31_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_rolled_by_0_Kernel : Cert.Pre_rolled_by_0_Kernel.Facts] (m : (ℓ : Loc Cert.Kernel.nD Cert.Kernel.τ Cert.Kernel.sig) → Buf (Elt Bits) ℓ) : Prop :=
  ∀ c : Dev Cert.Kernel.nD,
    (Cert.Pre_rolled_by_0_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_1_Kernel [hPre_rolled_by_1_Kernel : Cert.Pre_rolled_by_1_Kernel.Facts] (m : (ℓ : Loc Cert.Kernel.nD Cert.Kernel.τ Cert.Kernel.sig) → Buf (Elt Bits) ℓ) : Prop :=
  ∀ c : Dev Cert.Kernel.nD,
    (Cert.Pre_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_2_Kernel [hPre_rolled_by_2_Kernel : Cert.Pre_rolled_by_2_Kernel.Facts] (m : (ℓ : Loc Cert.Kernel.nD Cert.Kernel.τ Cert.Kernel.sig) → Buf (Elt Bits) ℓ) : Prop :=
  ∀ c : Dev Cert.Kernel.nD,
    (Cert.Pre_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_3_Kernel [hPre_rolled_by_3_Kernel : Cert.Pre_rolled_by_3_Kernel.Facts] (m : (ℓ : Loc Cert.Kernel.nD Cert.Kernel.τ Cert.Kernel.sig) → Buf (Elt Bits) ℓ) : Prop :=
  ∀ c : Dev Cert.Kernel.nD,
    (Cert.Pre_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_4_Kernel [hPre_rolled_by_4_Kernel : Cert.Pre_rolled_by_4_Kernel.Facts] (m : (ℓ : Loc Cert.Kernel.nD Cert.Kernel.τ Cert.Kernel.sig) → Buf (Elt Bits) ℓ) : Prop :=
  ∀ c : Dev Cert.Kernel.nD,
    (Cert.Pre_rolled_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_5_Kernel [hPre_rolled_by_5_Kernel : Cert.Pre_rolled_by_5_Kernel.Facts] (m : (ℓ : Loc Cert.Kernel.nD Cert.Kernel.τ Cert.Kernel.sig) → Buf (Elt Bits) ℓ) : Prop :=
  ∀ c : Dev Cert.Kernel.nD,
    (Cert.Pre_rolled_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_6_Kernel [hPre_rolled_by_6_Kernel : Cert.Pre_rolled_by_6_Kernel.Facts] (m : (ℓ : Loc Cert.Kernel.nD Cert.Kernel.τ Cert.Kernel.sig) → Buf (Elt Bits) ℓ) : Prop :=
  ∀ c : Dev Cert.Kernel.nD,
    (Cert.Pre_rolled_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_7_Kernel [hPre_rolled_by_7_Kernel : Cert.Pre_rolled_by_7_Kernel.Facts] (m : (ℓ : Loc Cert.Kernel.nD Cert.Kernel.τ Cert.Kernel.sig) → Buf (Elt Bits) ℓ) : Prop :=
  ∀ c : Dev Cert.Kernel.nD,
    (Cert.Pre_rolled_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_8_Kernel [hPre_rolled_by_8_Kernel : Cert.Pre_rolled_by_8_Kernel.Facts] (m : (ℓ : Loc Cert.Kernel.nD Cert.Kernel.τ Cert.Kernel.sig) → Buf (Elt Bits) ℓ) : Prop :=
  ∀ c : Dev Cert.Kernel.nD,
    (Cert.Pre_rolled_by_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_9_Kernel [hPre_rolled_by_9_Kernel : Cert.Pre_rolled_by_9_Kernel.Facts] (m : (ℓ : Loc Cert.Kernel.nD Cert.Kernel.τ Cert.Kernel.sig) → Buf (Elt Bits) ℓ) : Prop :=
  ∀ c : Dev Cert.Kernel.nD,
    (Cert.Pre_rolled_by_9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_10_Kernel [hPre_rolled_by_10_Kernel : Cert.Pre_rolled_by_10_Kernel.Facts] (m : (ℓ : Loc Cert.Kernel.nD Cert.Kernel.τ Cert.Kernel.sig) → Buf (Elt Bits) ℓ) : Prop :=
  ∀ c : Dev Cert.Kernel.nD,
    (Cert.Pre_rolled_by_10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_11_Kernel [hPre_rolled_by_11_Kernel : Cert.Pre_rolled_by_11_Kernel.Facts] (m : (ℓ : Loc Cert.Kernel.nD Cert.Kernel.τ Cert.Kernel.sig) → Buf (Elt Bits) ℓ) : Prop :=
  ∀ c : Dev Cert.Kernel.nD,
    (Cert.Pre_rolled_by_11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_12_Kernel [hPre_rolled_by_12_Kernel : Cert.Pre_rolled_by_12_Kernel.Facts] (m : (ℓ : Loc Cert.Kernel.nD Cert.Kernel.τ Cert.Kernel.sig) → Buf (Elt Bits) ℓ) : Prop :=
  ∀ c : Dev Cert.Kernel.nD,
    (Cert.Pre_rolled_by_12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_13_Kernel [hPre_rolled_by_13_Kernel : Cert.Pre_rolled_by_13_Kernel.Facts] (m : (ℓ : Loc Cert.Kernel.nD Cert.Kernel.τ Cert.Kernel.sig) → Buf (Elt Bits) ℓ) : Prop :=
  ∀ c : Dev Cert.Kernel.nD,
    (Cert.Pre_rolled_by_13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_14_Kernel [hPre_rolled_by_14_Kernel : Cert.Pre_rolled_by_14_Kernel.Facts] (m : (ℓ : Loc Cert.Kernel.nD Cert.Kernel.τ Cert.Kernel.sig) → Buf (Elt Bits) ℓ) : Prop :=
  ∀ c : Dev Cert.Kernel.nD,
    (Cert.Pre_rolled_by_14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_15_Kernel [hPre_rolled_by_15_Kernel : Cert.Pre_rolled_by_15_Kernel.Facts] (m : (ℓ : Loc Cert.Kernel.nD Cert.Kernel.τ Cert.Kernel.sig) → Buf (Elt Bits) ℓ) : Prop :=
  ∀ c : Dev Cert.Kernel.nD,
    (Cert.Pre_rolled_by_15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_16_Kernel [hPre_rolled_by_16_Kernel : Cert.Pre_rolled_by_16_Kernel.Facts] (m : (ℓ : Loc Cert.Kernel.nD Cert.Kernel.τ Cert.Kernel.sig) → Buf (Elt Bits) ℓ) : Prop :=
  ∀ c : Dev Cert.Kernel.nD,
    (Cert.Pre_rolled_by_16_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_17_Kernel [hPre_rolled_by_17_Kernel : Cert.Pre_rolled_by_17_Kernel.Facts] (m : (ℓ : Loc Cert.Kernel.nD Cert.Kernel.τ Cert.Kernel.sig) → Buf (Elt Bits) ℓ) : Prop :=
  ∀ c : Dev Cert.Kernel.nD,
    (Cert.Pre_rolled_by_17_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_18_Kernel [hPre_rolled_by_18_Kernel : Cert.Pre_rolled_by_18_Kernel.Facts] (m : (ℓ : Loc Cert.Kernel.nD Cert.Kernel.τ Cert.Kernel.sig) → Buf (Elt Bits) ℓ) : Prop :=
  ∀ c : Dev Cert.Kernel.nD,
    (Cert.Pre_rolled_by_18_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_19_Kernel [hPre_rolled_by_19_Kernel : Cert.Pre_rolled_by_19_Kernel.Facts] (m : (ℓ : Loc Cert.Kernel.nD Cert.Kernel.τ Cert.Kernel.sig) → Buf (Elt Bits) ℓ) : Prop :=
  ∀ c : Dev Cert.Kernel.nD,
    (Cert.Pre_rolled_by_19_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_20_Kernel [hPre_rolled_by_20_Kernel : Cert.Pre_rolled_by_20_Kernel.Facts] (m : (ℓ : Loc Cert.Kernel.nD Cert.Kernel.τ Cert.Kernel.sig) → Buf (Elt Bits) ℓ) : Prop :=
  ∀ c : Dev Cert.Kernel.nD,
    (Cert.Pre_rolled_by_20_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_21_Kernel [hPre_rolled_by_21_Kernel : Cert.Pre_rolled_by_21_Kernel.Facts] (m : (ℓ : Loc Cert.Kernel.nD Cert.Kernel.τ Cert.Kernel.sig) → Buf (Elt Bits) ℓ) : Prop :=
  ∀ c : Dev Cert.Kernel.nD,
    (Cert.Pre_rolled_by_21_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_22_Kernel [hPre_rolled_by_22_Kernel : Cert.Pre_rolled_by_22_Kernel.Facts] (m : (ℓ : Loc Cert.Kernel.nD Cert.Kernel.τ Cert.Kernel.sig) → Buf (Elt Bits) ℓ) : Prop :=
  ∀ c : Dev Cert.Kernel.nD,
    (Cert.Pre_rolled_by_22_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_23_Kernel [hPre_rolled_by_23_Kernel : Cert.Pre_rolled_by_23_Kernel.Facts] (m : (ℓ : Loc Cert.Kernel.nD Cert.Kernel.τ Cert.Kernel.sig) → Buf (Elt Bits) ℓ) : Prop :=
  ∀ c : Dev Cert.Kernel.nD,
    (Cert.Pre_rolled_by_23_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_24_Kernel [hPre_rolled_by_24_Kernel : Cert.Pre_rolled_by_24_Kernel.Facts] (m : (ℓ : Loc Cert.Kernel.nD Cert.Kernel.τ Cert.Kernel.sig) → Buf (Elt Bits) ℓ) : Prop :=
  ∀ c : Dev Cert.Kernel.nD,
    (Cert.Pre_rolled_by_24_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_25_Kernel [hPre_rolled_by_25_Kernel : Cert.Pre_rolled_by_25_Kernel.Facts] (m : (ℓ : Loc Cert.Kernel.nD Cert.Kernel.τ Cert.Kernel.sig) → Buf (Elt Bits) ℓ) : Prop :=
  ∀ c : Dev Cert.Kernel.nD,
    (Cert.Pre_rolled_by_25_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_26_Kernel [hPre_rolled_by_26_Kernel : Cert.Pre_rolled_by_26_Kernel.Facts] (m : (ℓ : Loc Cert.Kernel.nD Cert.Kernel.τ Cert.Kernel.sig) → Buf (Elt Bits) ℓ) : Prop :=
  ∀ c : Dev Cert.Kernel.nD,
    (Cert.Pre_rolled_by_26_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_27_Kernel [hPre_rolled_by_27_Kernel : Cert.Pre_rolled_by_27_Kernel.Facts] (m : (ℓ : Loc Cert.Kernel.nD Cert.Kernel.τ Cert.Kernel.sig) → Buf (Elt Bits) ℓ) : Prop :=
  ∀ c : Dev Cert.Kernel.nD,
    (Cert.Pre_rolled_by_27_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_28_Kernel [hPre_rolled_by_28_Kernel : Cert.Pre_rolled_by_28_Kernel.Facts] (m : (ℓ : Loc Cert.Kernel.nD Cert.Kernel.τ Cert.Kernel.sig) → Buf (Elt Bits) ℓ) : Prop :=
  ∀ c : Dev Cert.Kernel.nD,
    (Cert.Pre_rolled_by_28_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_29_Kernel [hPre_rolled_by_29_Kernel : Cert.Pre_rolled_by_29_Kernel.Facts] (m : (ℓ : Loc Cert.Kernel.nD Cert.Kernel.τ Cert.Kernel.sig) → Buf (Elt Bits) ℓ) : Prop :=
  ∀ c : Dev Cert.Kernel.nD,
    (Cert.Pre_rolled_by_29_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_30_Kernel [hPre_rolled_by_30_Kernel : Cert.Pre_rolled_by_30_Kernel.Facts] (m : (ℓ : Loc Cert.Kernel.nD Cert.Kernel.τ Cert.Kernel.sig) → Buf (Elt Bits) ℓ) : Prop :=
  ∀ c : Dev Cert.Kernel.nD,
    (Cert.Pre_rolled_by_30_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_31_Kernel [hPre_rolled_by_31_Kernel : Cert.Pre_rolled_by_31_Kernel.Facts] (m : (ℓ : Loc Cert.Kernel.nD Cert.Kernel.τ Cert.Kernel.sig) → Buf (Elt Bits) ℓ) : Prop :=
  ∀ c : Dev Cert.Kernel.nD,
    (Cert.Pre_rolled_by_31_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_by_0_Kernel : Cert.Pre_rolled_by_0_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_0_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_1_Kernel [hPre_rolled_by_1_Kernel : Cert.Pre_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_2_Kernel [hPre_rolled_by_2_Kernel : Cert.Pre_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_3_Kernel [hPre_rolled_by_3_Kernel : Cert.Pre_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_4_Kernel [hPre_rolled_by_4_Kernel : Cert.Pre_rolled_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_5_Kernel [hPre_rolled_by_5_Kernel : Cert.Pre_rolled_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_6_Kernel [hPre_rolled_by_6_Kernel : Cert.Pre_rolled_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_7_Kernel [hPre_rolled_by_7_Kernel : Cert.Pre_rolled_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_8_Kernel [hPre_rolled_by_8_Kernel : Cert.Pre_rolled_by_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_9_Kernel [hPre_rolled_by_9_Kernel : Cert.Pre_rolled_by_9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_10_Kernel [hPre_rolled_by_10_Kernel : Cert.Pre_rolled_by_10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_11_Kernel [hPre_rolled_by_11_Kernel : Cert.Pre_rolled_by_11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_12_Kernel [hPre_rolled_by_12_Kernel : Cert.Pre_rolled_by_12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_13_Kernel [hPre_rolled_by_13_Kernel : Cert.Pre_rolled_by_13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_14_Kernel [hPre_rolled_by_14_Kernel : Cert.Pre_rolled_by_14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_15_Kernel [hPre_rolled_by_15_Kernel : Cert.Pre_rolled_by_15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_16_Kernel [hPre_rolled_by_16_Kernel : Cert.Pre_rolled_by_16_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_16_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_17_Kernel [hPre_rolled_by_17_Kernel : Cert.Pre_rolled_by_17_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_17_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_18_Kernel [hPre_rolled_by_18_Kernel : Cert.Pre_rolled_by_18_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_18_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_19_Kernel [hPre_rolled_by_19_Kernel : Cert.Pre_rolled_by_19_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_19_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_20_Kernel [hPre_rolled_by_20_Kernel : Cert.Pre_rolled_by_20_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_20_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_21_Kernel [hPre_rolled_by_21_Kernel : Cert.Pre_rolled_by_21_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_21_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_22_Kernel [hPre_rolled_by_22_Kernel : Cert.Pre_rolled_by_22_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_22_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_23_Kernel [hPre_rolled_by_23_Kernel : Cert.Pre_rolled_by_23_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_23_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_24_Kernel [hPre_rolled_by_24_Kernel : Cert.Pre_rolled_by_24_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_24_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_25_Kernel [hPre_rolled_by_25_Kernel : Cert.Pre_rolled_by_25_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_25_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_26_Kernel [hPre_rolled_by_26_Kernel : Cert.Pre_rolled_by_26_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_26_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_27_Kernel [hPre_rolled_by_27_Kernel : Cert.Pre_rolled_by_27_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_27_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_28_Kernel [hPre_rolled_by_28_Kernel : Cert.Pre_rolled_by_28_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_28_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_29_Kernel [hPre_rolled_by_29_Kernel : Cert.Pre_rolled_by_29_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_29_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_30_Kernel [hPre_rolled_by_30_Kernel : Cert.Pre_rolled_by_30_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_30_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_31_Kernel [hPre_rolled_by_31_Kernel : Cert.Pre_rolled_by_31_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_31_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_0_ReferenceIdeal [hReferenceIdeal : Cert.ReferenceIdeal.Facts] [hPre_rolled_by_0_ReferenceIdeal : Cert.Pre_rolled_by_0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_1_ReferenceIdeal [hReferenceIdeal : Cert.ReferenceIdeal.Facts] [hPre_rolled_by_1_ReferenceIdeal : Cert.Pre_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_2_ReferenceIdeal [hReferenceIdeal : Cert.ReferenceIdeal.Facts] [hPre_rolled_by_2_ReferenceIdeal : Cert.Pre_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_3_ReferenceIdeal [hReferenceIdeal : Cert.ReferenceIdeal.Facts] [hPre_rolled_by_3_ReferenceIdeal : Cert.Pre_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_4_ReferenceIdeal [hReferenceIdeal : Cert.ReferenceIdeal.Facts] [hPre_rolled_by_4_ReferenceIdeal : Cert.Pre_rolled_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_5_ReferenceIdeal [hReferenceIdeal : Cert.ReferenceIdeal.Facts] [hPre_rolled_by_5_ReferenceIdeal : Cert.Pre_rolled_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_6_ReferenceIdeal [hReferenceIdeal : Cert.ReferenceIdeal.Facts] [hPre_rolled_by_6_ReferenceIdeal : Cert.Pre_rolled_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_7_ReferenceIdeal [hReferenceIdeal : Cert.ReferenceIdeal.Facts] [hPre_rolled_by_7_ReferenceIdeal : Cert.Pre_rolled_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_8_ReferenceIdeal [hReferenceIdeal : Cert.ReferenceIdeal.Facts] [hPre_rolled_by_8_ReferenceIdeal : Cert.Pre_rolled_by_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_9_ReferenceIdeal [hReferenceIdeal : Cert.ReferenceIdeal.Facts] [hPre_rolled_by_9_ReferenceIdeal : Cert.Pre_rolled_by_9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_10_ReferenceIdeal [hReferenceIdeal : Cert.ReferenceIdeal.Facts] [hPre_rolled_by_10_ReferenceIdeal : Cert.Pre_rolled_by_10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_11_ReferenceIdeal [hReferenceIdeal : Cert.ReferenceIdeal.Facts] [hPre_rolled_by_11_ReferenceIdeal : Cert.Pre_rolled_by_11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_12_ReferenceIdeal [hReferenceIdeal : Cert.ReferenceIdeal.Facts] [hPre_rolled_by_12_ReferenceIdeal : Cert.Pre_rolled_by_12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_13_ReferenceIdeal [hReferenceIdeal : Cert.ReferenceIdeal.Facts] [hPre_rolled_by_13_ReferenceIdeal : Cert.Pre_rolled_by_13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_14_ReferenceIdeal [hReferenceIdeal : Cert.ReferenceIdeal.Facts] [hPre_rolled_by_14_ReferenceIdeal : Cert.Pre_rolled_by_14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_15_ReferenceIdeal [hReferenceIdeal : Cert.ReferenceIdeal.Facts] [hPre_rolled_by_15_ReferenceIdeal : Cert.Pre_rolled_by_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_16_ReferenceIdeal [hReferenceIdeal : Cert.ReferenceIdeal.Facts] [hPre_rolled_by_16_ReferenceIdeal : Cert.Pre_rolled_by_16_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_16_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_17_ReferenceIdeal [hReferenceIdeal : Cert.ReferenceIdeal.Facts] [hPre_rolled_by_17_ReferenceIdeal : Cert.Pre_rolled_by_17_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_17_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_18_ReferenceIdeal [hReferenceIdeal : Cert.ReferenceIdeal.Facts] [hPre_rolled_by_18_ReferenceIdeal : Cert.Pre_rolled_by_18_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_18_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_19_ReferenceIdeal [hReferenceIdeal : Cert.ReferenceIdeal.Facts] [hPre_rolled_by_19_ReferenceIdeal : Cert.Pre_rolled_by_19_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_19_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_20_ReferenceIdeal [hReferenceIdeal : Cert.ReferenceIdeal.Facts] [hPre_rolled_by_20_ReferenceIdeal : Cert.Pre_rolled_by_20_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_20_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_21_ReferenceIdeal [hReferenceIdeal : Cert.ReferenceIdeal.Facts] [hPre_rolled_by_21_ReferenceIdeal : Cert.Pre_rolled_by_21_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_21_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_22_ReferenceIdeal [hReferenceIdeal : Cert.ReferenceIdeal.Facts] [hPre_rolled_by_22_ReferenceIdeal : Cert.Pre_rolled_by_22_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_22_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_23_ReferenceIdeal [hReferenceIdeal : Cert.ReferenceIdeal.Facts] [hPre_rolled_by_23_ReferenceIdeal : Cert.Pre_rolled_by_23_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_23_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_24_ReferenceIdeal [hReferenceIdeal : Cert.ReferenceIdeal.Facts] [hPre_rolled_by_24_ReferenceIdeal : Cert.Pre_rolled_by_24_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_24_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_25_ReferenceIdeal [hReferenceIdeal : Cert.ReferenceIdeal.Facts] [hPre_rolled_by_25_ReferenceIdeal : Cert.Pre_rolled_by_25_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_25_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_26_ReferenceIdeal [hReferenceIdeal : Cert.ReferenceIdeal.Facts] [hPre_rolled_by_26_ReferenceIdeal : Cert.Pre_rolled_by_26_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_26_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_27_ReferenceIdeal [hReferenceIdeal : Cert.ReferenceIdeal.Facts] [hPre_rolled_by_27_ReferenceIdeal : Cert.Pre_rolled_by_27_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_27_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_28_ReferenceIdeal [hReferenceIdeal : Cert.ReferenceIdeal.Facts] [hPre_rolled_by_28_ReferenceIdeal : Cert.Pre_rolled_by_28_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_28_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_29_ReferenceIdeal [hReferenceIdeal : Cert.ReferenceIdeal.Facts] [hPre_rolled_by_29_ReferenceIdeal : Cert.Pre_rolled_by_29_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_29_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_30_ReferenceIdeal [hReferenceIdeal : Cert.ReferenceIdeal.Facts] [hPre_rolled_by_30_ReferenceIdeal : Cert.Pre_rolled_by_30_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_30_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_31_ReferenceIdeal [hReferenceIdeal : Cert.ReferenceIdeal.Facts] [hPre_rolled_by_31_ReferenceIdeal : Cert.Pre_rolled_by_31_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_31_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_rolled_by_0_Kernel : Cert.Pre_rolled_by_0_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_1_Kernel [hKernel : Cert.Kernel.Facts] [hPre_rolled_by_1_Kernel : Cert.Pre_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel_rolled_by_1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_2_Kernel [hKernel : Cert.Kernel.Facts] [hPre_rolled_by_2_Kernel : Cert.Pre_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_3_Kernel [hKernel : Cert.Kernel.Facts] [hPre_rolled_by_3_Kernel : Cert.Pre_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_4_Kernel [hKernel : Cert.Kernel.Facts] [hPre_rolled_by_4_Kernel : Cert.Pre_rolled_by_4_Kernel.Facts] : Prop :=
  ∀ (m : (ℓ : Loc Cert.Kernel.nD Cert.Kernel.τ Cert.Kernel.sig) → Buf (Elt Bits) ℓ) (g : Dev Cert.Kernel.nD → PrngReg), Pre_Kernel_rolled_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_5_Kernel [hKernel : Cert.Kernel.Facts] [hPre_rolled_by_5_Kernel : Cert.Pre_rolled_by_5_Kernel.Facts] : Prop :=
  ∀ (m : (ℓ : Loc Cert.Kernel.nD Cert.Kernel.τ Cert.Kernel.sig) → Buf (Elt Bits) ℓ) (g : Dev Cert.Kernel.nD → PrngReg), Pre_Kernel_rolled_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_6_Kernel [hKernel : Cert.Kernel.Facts] [hPre_rolled_by_6_Kernel : Cert.Pre_rolled_by_6_Kernel.Facts] : Prop :=
  ∀ (m : (ℓ : Loc Cert.Kernel.nD Cert.Kernel.τ Cert.Kernel.sig) → Buf (Elt Bits) ℓ) (g : Dev Cert.Kernel.nD → PrngReg), Pre_Kernel_rolled_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_7_Kernel [hKernel : Cert.Kernel.Facts] [hPre_rolled_by_7_Kernel : Cert.Pre_rolled_by_7_Kernel.Facts] : Prop :=
  ∀ (m : (ℓ : Loc Cert.Kernel.nD Cert.Kernel.τ Cert.Kernel.sig) → Buf (Elt Bits) ℓ) (g : Dev Cert.Kernel.nD → PrngReg), Pre_Kernel_rolled_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_8_Kernel [hKernel : Cert.Kernel.Facts] [hPre_rolled_by_8_Kernel : Cert.Pre_rolled_by_8_Kernel.Facts] : Prop :=
  ∀ (m : (ℓ : Loc Cert.Kernel.nD Cert.Kernel.τ Cert.Kernel.sig) → Buf (Elt Bits) ℓ) (g : Dev Cert.Kernel.nD → PrngReg), Pre_Kernel_rolled_by_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_9_Kernel [hKernel : Cert.Kernel.Facts] [hPre_rolled_by_9_Kernel : Cert.Pre_rolled_by_9_Kernel.Facts] : Prop :=
  ∀ (m : (ℓ : Loc Cert.Kernel.nD Cert.Kernel.τ Cert.Kernel.sig) → Buf (Elt Bits) ℓ) (g : Dev Cert.Kernel.nD → PrngReg), Pre_Kernel_rolled_by_9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_10_Kernel [hKernel : Cert.Kernel.Facts] [hPre_rolled_by_10_Kernel : Cert.Pre_rolled_by_10_Kernel.Facts] : Prop :=
  ∀ (m : (ℓ : Loc Cert.Kernel.nD Cert.Kernel.τ Cert.Kernel.sig) → Buf (Elt Bits) ℓ) (g : Dev Cert.Kernel.nD → PrngReg), Pre_Kernel_rolled_by_10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_11_Kernel [hKernel : Cert.Kernel.Facts] [hPre_rolled_by_11_Kernel : Cert.Pre_rolled_by_11_Kernel.Facts] : Prop :=
  ∀ (m : (ℓ : Loc Cert.Kernel.nD Cert.Kernel.τ Cert.Kernel.sig) → Buf (Elt Bits) ℓ) (g : Dev Cert.Kernel.nD → PrngReg), Pre_Kernel_rolled_by_11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_12_Kernel [hKernel : Cert.Kernel.Facts] [hPre_rolled_by_12_Kernel : Cert.Pre_rolled_by_12_Kernel.Facts] : Prop :=
  ∀ (m : (ℓ : Loc Cert.Kernel.nD Cert.Kernel.τ Cert.Kernel.sig) → Buf (Elt Bits) ℓ) (g : Dev Cert.Kernel.nD → PrngReg), Pre_Kernel_rolled_by_12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_13_Kernel [hKernel : Cert.Kernel.Facts] [hPre_rolled_by_13_Kernel : Cert.Pre_rolled_by_13_Kernel.Facts] : Prop :=
  ∀ (m : (ℓ : Loc Cert.Kernel.nD Cert.Kernel.τ Cert.Kernel.sig) → Buf (Elt Bits) ℓ) (g : Dev Cert.Kernel.nD → PrngReg), Pre_Kernel_rolled_by_13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_14_Kernel [hKernel : Cert.Kernel.Facts] [hPre_rolled_by_14_Kernel : Cert.Pre_rolled_by_14_Kernel.Facts] : Prop :=
  ∀ (m : (ℓ : Loc Cert.Kernel.nD Cert.Kernel.τ Cert.Kernel.sig) → Buf (Elt Bits) ℓ) (g : Dev Cert.Kernel.nD → PrngReg), Pre_Kernel_rolled_by_14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_15_Kernel [hKernel : Cert.Kernel.Facts] [hPre_rolled_by_15_Kernel : Cert.Pre_rolled_by_15_Kernel.Facts] : Prop :=
  ∀ (m : (ℓ : Loc Cert.Kernel.nD Cert.Kernel.τ Cert.Kernel.sig) → Buf (Elt Bits) ℓ) (g : Dev Cert.Kernel.nD → PrngReg), Pre_Kernel_rolled_by_15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_16_Kernel [hKernel : Cert.Kernel.Facts] [hPre_rolled_by_16_Kernel : Cert.Pre_rolled_by_16_Kernel.Facts] : Prop :=
  ∀ (m : (ℓ : Loc Cert.Kernel.nD Cert.Kernel.τ Cert.Kernel.sig) → Buf (Elt Bits) ℓ) (g : Dev Cert.Kernel.nD → PrngReg), Pre_Kernel_rolled_by_16_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_17_Kernel [hKernel : Cert.Kernel.Facts] [hPre_rolled_by_17_Kernel : Cert.Pre_rolled_by_17_Kernel.Facts] : Prop :=
  ∀ (m : (ℓ : Loc Cert.Kernel.nD Cert.Kernel.τ Cert.Kernel.sig) → Buf (Elt Bits) ℓ) (g : Dev Cert.Kernel.nD → PrngReg), Pre_Kernel_rolled_by_17_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_18_Kernel [hKernel : Cert.Kernel.Facts] [hPre_rolled_by_18_Kernel : Cert.Pre_rolled_by_18_Kernel.Facts] : Prop :=
  ∀ (m : (ℓ : Loc Cert.Kernel.nD Cert.Kernel.τ Cert.Kernel.sig) → Buf (Elt Bits) ℓ) (g : Dev Cert.Kernel.nD → PrngReg), Pre_Kernel_rolled_by_18_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_19_Kernel [hKernel : Cert.Kernel.Facts] [hPre_rolled_by_19_Kernel : Cert.Pre_rolled_by_19_Kernel.Facts] : Prop :=
  ∀ (m : (ℓ : Loc Cert.Kernel.nD Cert.Kernel.τ Cert.Kernel.sig) → Buf (Elt Bits) ℓ) (g : Dev Cert.Kernel.nD → PrngReg), Pre_Kernel_rolled_by_19_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_20_Kernel [hKernel : Cert.Kernel.Facts] [hPre_rolled_by_20_Kernel : Cert.Pre_rolled_by_20_Kernel.Facts] : Prop :=
  ∀ (m : (ℓ : Loc Cert.Kernel.nD Cert.Kernel.τ Cert.Kernel.sig) → Buf (Elt Bits) ℓ) (g : Dev Cert.Kernel.nD → PrngReg), Pre_Kernel_rolled_by_20_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_21_Kernel [hKernel : Cert.Kernel.Facts] [hPre_rolled_by_21_Kernel : Cert.Pre_rolled_by_21_Kernel.Facts] : Prop :=
  ∀ (m : (ℓ : Loc Cert.Kernel.nD Cert.Kernel.τ Cert.Kernel.sig) → Buf (Elt Bits) ℓ) (g : Dev Cert.Kernel.nD → PrngReg), Pre_Kernel_rolled_by_21_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_22_Kernel [hKernel : Cert.Kernel.Facts] [hPre_rolled_by_22_Kernel : Cert.Pre_rolled_by_22_Kernel.Facts] : Prop :=
  ∀ (m : (ℓ : Loc Cert.Kernel.nD Cert.Kernel.τ Cert.Kernel.sig) → Buf (Elt Bits) ℓ) (g : Dev Cert.Kernel.nD → PrngReg), Pre_Kernel_rolled_by_22_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_23_Kernel [hKernel : Cert.Kernel.Facts] [hPre_rolled_by_23_Kernel : Cert.Pre_rolled_by_23_Kernel.Facts] : Prop :=
  ∀ (m : (ℓ : Loc Cert.Kernel.nD Cert.Kernel.τ Cert.Kernel.sig) → Buf (Elt Bits) ℓ) (g : Dev Cert.Kernel.nD → PrngReg), Pre_Kernel_rolled_by_23_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_24_Kernel [hKernel : Cert.Kernel.Facts] [hPre_rolled_by_24_Kernel : Cert.Pre_rolled_by_24_Kernel.Facts] : Prop :=
  ∀ (m : (ℓ : Loc Cert.Kernel.nD Cert.Kernel.τ Cert.Kernel.sig) → Buf (Elt Bits) ℓ) (g : Dev Cert.Kernel.nD → PrngReg), Pre_Kernel_rolled_by_24_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_25_Kernel [hKernel : Cert.Kernel.Facts] [hPre_rolled_by_25_Kernel : Cert.Pre_rolled_by_25_Kernel.Facts] : Prop :=
  ∀ (m : (ℓ : Loc Cert.Kernel.nD Cert.Kernel.τ Cert.Kernel.sig) → Buf (Elt Bits) ℓ) (g : Dev Cert.Kernel.nD → PrngReg), Pre_Kernel_rolled_by_25_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_26_Kernel [hKernel : Cert.Kernel.Facts] [hPre_rolled_by_26_Kernel : Cert.Pre_rolled_by_26_Kernel.Facts] : Prop :=
  ∀ (m : (ℓ : Loc Cert.Kernel.nD Cert.Kernel.τ Cert.Kernel.sig) → Buf (Elt Bits) ℓ) (g : Dev Cert.Kernel.nD → PrngReg), Pre_Kernel_rolled_by_26_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_27_Kernel [hKernel : Cert.Kernel.Facts] [hPre_rolled_by_27_Kernel : Cert.Pre_rolled_by_27_Kernel.Facts] : Prop :=
  ∀ (m : (ℓ : Loc Cert.Kernel.nD Cert.Kernel.τ Cert.Kernel.sig) → Buf (Elt Bits) ℓ) (g : Dev Cert.Kernel.nD → PrngReg), Pre_Kernel_rolled_by_27_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_28_Kernel [hKernel : Cert.Kernel.Facts] [hPre_rolled_by_28_Kernel : Cert.Pre_rolled_by_28_Kernel.Facts] : Prop :=
  ∀ (m : (ℓ : Loc Cert.Kernel.nD Cert.Kernel.τ Cert.Kernel.sig) → Buf (Elt Bits) ℓ) (g : Dev Cert.Kernel.nD → PrngReg), Pre_Kernel_rolled_by_28_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_29_Kernel [hKernel : Cert.Kernel.Facts] [hPre_rolled_by_29_Kernel : Cert.Pre_rolled_by_29_Kernel.Facts] : Prop :=
  ∀ (m : (ℓ : Loc Cert.Kernel.nD Cert.Kernel.τ Cert.Kernel.sig) → Buf (Elt Bits) ℓ) (g : Dev Cert.Kernel.nD → PrngReg), Pre_Kernel_rolled_by_29_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_30_Kernel [hKernel : Cert.Kernel.Facts] [hPre_rolled_by_30_Kernel : Cert.Pre_rolled_by_30_Kernel.Facts] : Prop :=
  ∀ (m : (ℓ : Loc Cert.Kernel.nD Cert.Kernel.τ Cert.Kernel.sig) → Buf (Elt Bits) ℓ) (g : Dev Cert.Kernel.nD → PrngReg), Pre_Kernel_rolled_by_30_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_31_Kernel [hKernel : Cert.Kernel.Facts] [hPre_rolled_by_31_Kernel : Cert.Pre_rolled_by_31_Kernel.Facts] : Prop :=
  ∀ (m : (ℓ : Loc Cert.Kernel.nD Cert.Kernel.τ Cert.Kernel.sig) → Buf (Elt Bits) ℓ) (g : Dev Cert.Kernel.nD → PrngReg), Pre_Kernel_rolled_by_31_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_by_0_Kernel : Cert.Pre_rolled_by_0_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_1_Kernel [hKernelIdeal : Cert.KernelIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_2_Kernel [hKernelIdeal : Cert.KernelIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_3_Kernel [hKernelIdeal : Cert.KernelIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_4_Kernel [hKernelIdeal : Cert.KernelIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_5_Kernel [hKernelIdeal : Cert.KernelIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_6_Kernel [hKernelIdeal : Cert.KernelIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_7_Kernel [hKernelIdeal : Cert.KernelIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_8_Kernel [hKernelIdeal : Cert.KernelIdeal.Facts] [hPre_rolled_by_8_Kernel : Cert.Pre_rolled_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_9_Kernel [hKernelIdeal : Cert.KernelIdeal.Facts] [hPre_rolled_by_9_Kernel : Cert.Pre_rolled_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_10_Kernel [hKernelIdeal : Cert.KernelIdeal.Facts] [hPre_rolled_by_10_Kernel : Cert.Pre_rolled_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_11_Kernel [hKernelIdeal : Cert.KernelIdeal.Facts] [hPre_rolled_by_11_Kernel : Cert.Pre_rolled_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_12_Kernel [hKernelIdeal : Cert.KernelIdeal.Facts] [hPre_rolled_by_12_Kernel : Cert.Pre_rolled_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_13_Kernel [hKernelIdeal : Cert.KernelIdeal.Facts] [hPre_rolled_by_13_Kernel : Cert.Pre_rolled_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_14_Kernel [hKernelIdeal : Cert.KernelIdeal.Facts] [hPre_rolled_by_14_Kernel : Cert.Pre_rolled_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_15_Kernel [hKernelIdeal : Cert.KernelIdeal.Facts] [hPre_rolled_by_15_Kernel : Cert.Pre_rolled_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_16_Kernel [hKernelIdeal : Cert.KernelIdeal.Facts] [hPre_rolled_by_16_Kernel : Cert.Pre_rolled_by_16_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_16_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_17_Kernel [hKernelIdeal : Cert.KernelIdeal.Facts] [hPre_rolled_by_17_Kernel : Cert.Pre_rolled_by_17_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_17_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_18_Kernel [hKernelIdeal : Cert.KernelIdeal.Facts] [hPre_rolled_by_18_Kernel : Cert.Pre_rolled_by_18_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_18_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_19_Kernel [hKernelIdeal : Cert.KernelIdeal.Facts] [hPre_rolled_by_19_Kernel : Cert.Pre_rolled_by_19_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_19_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_20_Kernel [hKernelIdeal : Cert.KernelIdeal.Facts] [hPre_rolled_by_20_Kernel : Cert.Pre_rolled_by_20_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_20_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_21_Kernel [hKernelIdeal : Cert.KernelIdeal.Facts] [hPre_rolled_by_21_Kernel : Cert.Pre_rolled_by_21_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_21_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_22_Kernel [hKernelIdeal : Cert.KernelIdeal.Facts] [hPre_rolled_by_22_Kernel : Cert.Pre_rolled_by_22_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_22_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_23_Kernel [hKernelIdeal : Cert.KernelIdeal.Facts] [hPre_rolled_by_23_Kernel : Cert.Pre_rolled_by_23_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_23_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_24_Kernel [hKernelIdeal : Cert.KernelIdeal.Facts] [hPre_rolled_by_24_Kernel : Cert.Pre_rolled_by_24_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_24_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_25_Kernel [hKernelIdeal : Cert.KernelIdeal.Facts] [hPre_rolled_by_25_Kernel : Cert.Pre_rolled_by_25_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_25_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_26_Kernel [hKernelIdeal : Cert.KernelIdeal.Facts] [hPre_rolled_by_26_Kernel : Cert.Pre_rolled_by_26_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_26_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_27_Kernel [hKernelIdeal : Cert.KernelIdeal.Facts] [hPre_rolled_by_27_Kernel : Cert.Pre_rolled_by_27_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_27_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_28_Kernel [hKernelIdeal : Cert.KernelIdeal.Facts] [hPre_rolled_by_28_Kernel : Cert.Pre_rolled_by_28_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_28_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_29_Kernel [hKernelIdeal : Cert.KernelIdeal.Facts] [hPre_rolled_by_29_Kernel : Cert.Pre_rolled_by_29_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_29_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_30_Kernel [hKernelIdeal : Cert.KernelIdeal.Facts] [hPre_rolled_by_30_Kernel : Cert.Pre_rolled_by_30_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_30_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_31_Kernel [hKernelIdeal : Cert.KernelIdeal.Facts] [hPre_rolled_by_31_Kernel : Cert.Pre_rolled_by_31_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_31_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_by_0_Kernel : Cert.Pre_rolled_by_0_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_1_Kernel [hKernelIdeal : Cert.KernelIdeal.Facts] [hReferenceIdeal : Cert.ReferenceIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_1_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_2_Kernel [hKernelIdeal : Cert.KernelIdeal.Facts] [hReferenceIdeal : Cert.ReferenceIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_2_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_3_Kernel [hKernelIdeal : Cert.KernelIdeal.Facts] [hReferenceIdeal : Cert.ReferenceIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_3_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_4_Kernel [hKernelIdeal : Cert.KernelIdeal.Facts] [hReferenceIdeal : Cert.ReferenceIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_4_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_5_Kernel [hKernelIdeal : Cert.KernelIdeal.Facts] [hReferenceIdeal : Cert.ReferenceIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_5_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_6_Kernel [hKernelIdeal : Cert.KernelIdeal.Facts] [hReferenceIdeal : Cert.ReferenceIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_6_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_7_Kernel [hKernelIdeal : Cert.KernelIdeal.Facts] [hReferenceIdeal : Cert.ReferenceIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_7_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_8_Kernel [hKernelIdeal : Cert.KernelIdeal.Facts] [hReferenceIdeal : Cert.ReferenceIdeal.Facts] [hPre_rolled_by_8_Kernel : Cert.Pre_rolled_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_8_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_9_Kernel [hKernelIdeal : Cert.KernelIdeal.Facts] [hReferenceIdeal : Cert.ReferenceIdeal.Facts] [hPre_rolled_by_9_Kernel : Cert.Pre_rolled_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_9_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_10_Kernel [hKernelIdeal : Cert.KernelIdeal.Facts] [hReferenceIdeal : Cert.ReferenceIdeal.Facts] [hPre_rolled_by_10_Kernel : Cert.Pre_rolled_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_10_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_11_Kernel [hKernelIdeal : Cert.KernelIdeal.Facts] [hReferenceIdeal : Cert.ReferenceIdeal.Facts] [hPre_rolled_by_11_Kernel : Cert.Pre_rolled_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_11_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_12_Kernel [hKernelIdeal : Cert.KernelIdeal.Facts] [hReferenceIdeal : Cert.ReferenceIdeal.Facts] [hPre_rolled_by_12_Kernel : Cert.Pre_rolled_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_12_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_13_Kernel [hKernelIdeal : Cert.KernelIdeal.Facts] [hReferenceIdeal : Cert.ReferenceIdeal.Facts] [hPre_rolled_by_13_Kernel : Cert.Pre_rolled_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_13_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_14_Kernel [hKernelIdeal : Cert.KernelIdeal.Facts] [hReferenceIdeal : Cert.ReferenceIdeal.Facts] [hPre_rolled_by_14_Kernel : Cert.Pre_rolled_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_14_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_15_Kernel [hKernelIdeal : Cert.KernelIdeal.Facts] [hReferenceIdeal : Cert.ReferenceIdeal.Facts] [hPre_rolled_by_15_Kernel : Cert.Pre_rolled_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_15_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_16_Kernel [hKernelIdeal : Cert.KernelIdeal.Facts] [hReferenceIdeal : Cert.ReferenceIdeal.Facts] [hPre_rolled_by_16_Kernel : Cert.Pre_rolled_by_16_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_16_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_17_Kernel [hKernelIdeal : Cert.KernelIdeal.Facts] [hReferenceIdeal : Cert.ReferenceIdeal.Facts] [hPre_rolled_by_17_Kernel : Cert.Pre_rolled_by_17_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_17_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_18_Kernel [hKernelIdeal : Cert.KernelIdeal.Facts] [hReferenceIdeal : Cert.ReferenceIdeal.Facts] [hPre_rolled_by_18_Kernel : Cert.Pre_rolled_by_18_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_18_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_19_Kernel [hKernelIdeal : Cert.KernelIdeal.Facts] [hReferenceIdeal : Cert.ReferenceIdeal.Facts] [hPre_rolled_by_19_Kernel : Cert.Pre_rolled_by_19_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_19_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_20_Kernel [hKernelIdeal : Cert.KernelIdeal.Facts] [hReferenceIdeal : Cert.ReferenceIdeal.Facts] [hPre_rolled_by_20_Kernel : Cert.Pre_rolled_by_20_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_20_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_21_Kernel [hKernelIdeal : Cert.KernelIdeal.Facts] [hReferenceIdeal : Cert.ReferenceIdeal.Facts] [hPre_rolled_by_21_Kernel : Cert.Pre_rolled_by_21_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_21_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_22_Kernel [hKernelIdeal : Cert.KernelIdeal.Facts] [hReferenceIdeal : Cert.ReferenceIdeal.Facts] [hPre_rolled_by_22_Kernel : Cert.Pre_rolled_by_22_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_22_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_23_Kernel [hKernelIdeal : Cert.KernelIdeal.Facts] [hReferenceIdeal : Cert.ReferenceIdeal.Facts] [hPre_rolled_by_23_Kernel : Cert.Pre_rolled_by_23_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_23_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_24_Kernel [hKernelIdeal : Cert.KernelIdeal.Facts] [hReferenceIdeal : Cert.ReferenceIdeal.Facts] [hPre_rolled_by_24_Kernel : Cert.Pre_rolled_by_24_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_24_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_25_Kernel [hKernelIdeal : Cert.KernelIdeal.Facts] [hReferenceIdeal : Cert.ReferenceIdeal.Facts] [hPre_rolled_by_25_Kernel : Cert.Pre_rolled_by_25_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_25_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_26_Kernel [hKernelIdeal : Cert.KernelIdeal.Facts] [hReferenceIdeal : Cert.ReferenceIdeal.Facts] [hPre_rolled_by_26_Kernel : Cert.Pre_rolled_by_26_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_26_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_27_Kernel [hKernelIdeal : Cert.KernelIdeal.Facts] [hReferenceIdeal : Cert.ReferenceIdeal.Facts] [hPre_rolled_by_27_Kernel : Cert.Pre_rolled_by_27_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_27_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_28_Kernel [hKernelIdeal : Cert.KernelIdeal.Facts] [hReferenceIdeal : Cert.ReferenceIdeal.Facts] [hPre_rolled_by_28_Kernel : Cert.Pre_rolled_by_28_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_28_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_29_Kernel [hKernelIdeal : Cert.KernelIdeal.Facts] [hReferenceIdeal : Cert.ReferenceIdeal.Facts] [hPre_rolled_by_29_Kernel : Cert.Pre_rolled_by_29_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_29_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_30_Kernel [hKernelIdeal : Cert.KernelIdeal.Facts] [hReferenceIdeal : Cert.ReferenceIdeal.Facts] [hPre_rolled_by_30_Kernel : Cert.Pre_rolled_by_30_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_30_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_31_Kernel [hKernelIdeal : Cert.KernelIdeal.Facts] [hReferenceIdeal : Cert.ReferenceIdeal.Facts] [hPre_rolled_by_31_Kernel : Cert.Pre_rolled_by_31_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_31_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_rolled_by_0_ReferenceIdeal : Cert.Pre_rolled_by_0_ReferenceIdeal.Facts) (hPre_rolled_by_1_ReferenceIdeal : Cert.Pre_rolled_by_1_ReferenceIdeal.Facts) (hPre_rolled_by_2_ReferenceIdeal : Cert.Pre_rolled_by_2_ReferenceIdeal.Facts) (hPre_rolled_by_3_ReferenceIdeal : Cert.Pre_rolled_by_3_ReferenceIdeal.Facts) (hPre_rolled_by_4_ReferenceIdeal : Cert.Pre_rolled_by_4_ReferenceIdeal.Facts) (hPre_rolled_by_5_ReferenceIdeal : Cert.Pre_rolled_by_5_ReferenceIdeal.Facts) (hPre_rolled_by_6_ReferenceIdeal : Cert.Pre_rolled_by_6_ReferenceIdeal.Facts) (hPre_rolled_by_7_ReferenceIdeal : Cert.Pre_rolled_by_7_ReferenceIdeal.Facts) (hPre_rolled_by_8_ReferenceIdeal : Cert.Pre_rolled_by_8_ReferenceIdeal.Facts) (hPre_rolled_by_9_ReferenceIdeal : Cert.Pre_rolled_by_9_ReferenceIdeal.Facts) (hPre_rolled_by_10_ReferenceIdeal : Cert.Pre_rolled_by_10_ReferenceIdeal.Facts) (hPre_rolled_by_11_ReferenceIdeal : Cert.Pre_rolled_by_11_ReferenceIdeal.Facts) (hPre_rolled_by_12_ReferenceIdeal : Cert.Pre_rolled_by_12_ReferenceIdeal.Facts) (hPre_rolled_by_13_ReferenceIdeal : Cert.Pre_rolled_by_13_ReferenceIdeal.Facts) (hPre_rolled_by_14_ReferenceIdeal : Cert.Pre_rolled_by_14_ReferenceIdeal.Facts) (hPre_rolled_by_15_ReferenceIdeal : Cert.Pre_rolled_by_15_ReferenceIdeal.Facts) (hPre_rolled_by_16_ReferenceIdeal : Cert.Pre_rolled_by_16_ReferenceIdeal.Facts) (hPre_rolled_by_17_ReferenceIdeal : Cert.Pre_rolled_by_17_ReferenceIdeal.Facts) (hPre_rolled_by_18_ReferenceIdeal : Cert.Pre_rolled_by_18_ReferenceIdeal.Facts) (hPre_rolled_by_19_ReferenceIdeal : Cert.Pre_rolled_by_19_ReferenceIdeal.Facts) (hPre_rolled_by_20_ReferenceIdeal : Cert.Pre_rolled_by_20_ReferenceIdeal.Facts) (hPre_rolled_by_21_ReferenceIdeal : Cert.Pre_rolled_by_21_ReferenceIdeal.Facts) (hPre_rolled_by_22_ReferenceIdeal : Cert.Pre_rolled_by_22_ReferenceIdeal.Facts) (hPre_rolled_by_23_ReferenceIdeal : Cert.Pre_rolled_by_23_ReferenceIdeal.Facts) (hPre_rolled_by_24_ReferenceIdeal : Cert.Pre_rolled_by_24_ReferenceIdeal.Facts) (hPre_rolled_by_25_ReferenceIdeal : Cert.Pre_rolled_by_25_ReferenceIdeal.Facts) (hPre_rolled_by_26_ReferenceIdeal : Cert.Pre_rolled_by_26_ReferenceIdeal.Facts) (hPre_rolled_by_27_ReferenceIdeal : Cert.Pre_rolled_by_27_ReferenceIdeal.Facts) (hPre_rolled_by_28_ReferenceIdeal : Cert.Pre_rolled_by_28_ReferenceIdeal.Facts) (hPre_rolled_by_29_ReferenceIdeal : Cert.Pre_rolled_by_29_ReferenceIdeal.Facts) (hPre_rolled_by_30_ReferenceIdeal : Cert.Pre_rolled_by_30_ReferenceIdeal.Facts) (hPre_rolled_by_31_ReferenceIdeal : Cert.Pre_rolled_by_31_ReferenceIdeal.Facts) (hPre_rolled_by_0_Kernel : Cert.Pre_rolled_by_0_Kernel.Facts) (hPre_rolled_by_1_Kernel : Cert.Pre_rolled_by_1_Kernel.Facts) (hPre_rolled_by_2_Kernel : Cert.Pre_rolled_by_2_Kernel.Facts) (hPre_rolled_by_3_Kernel : Cert.Pre_rolled_by_3_Kernel.Facts) (hPre_rolled_by_4_Kernel : Cert.Pre_rolled_by_4_Kernel.Facts) (hPre_rolled_by_5_Kernel : Cert.Pre_rolled_by_5_Kernel.Facts) (hPre_rolled_by_6_Kernel : Cert.Pre_rolled_by_6_Kernel.Facts) (hPre_rolled_by_7_Kernel : Cert.Pre_rolled_by_7_Kernel.Facts) (hPre_rolled_by_8_Kernel : Cert.Pre_rolled_by_8_Kernel.Facts) (hPre_rolled_by_9_Kernel : Cert.Pre_rolled_by_9_Kernel.Facts) (hPre_rolled_by_10_Kernel : Cert.Pre_rolled_by_10_Kernel.Facts) (hPre_rolled_by_11_Kernel : Cert.Pre_rolled_by_11_Kernel.Facts) (hPre_rolled_by_12_Kernel : Cert.Pre_rolled_by_12_Kernel.Facts) (hPre_rolled_by_13_Kernel : Cert.Pre_rolled_by_13_Kernel.Facts) (hPre_rolled_by_14_Kernel : Cert.Pre_rolled_by_14_Kernel.Facts) (hPre_rolled_by_15_Kernel : Cert.Pre_rolled_by_15_Kernel.Facts) (hPre_rolled_by_16_Kernel : Cert.Pre_rolled_by_16_Kernel.Facts) (hPre_rolled_by_17_Kernel : Cert.Pre_rolled_by_17_Kernel.Facts) (hPre_rolled_by_18_Kernel : Cert.Pre_rolled_by_18_Kernel.Facts) (hPre_rolled_by_19_Kernel : Cert.Pre_rolled_by_19_Kernel.Facts) (hPre_rolled_by_20_Kernel : Cert.Pre_rolled_by_20_Kernel.Facts) (hPre_rolled_by_21_Kernel : Cert.Pre_rolled_by_21_Kernel.Facts) (hPre_rolled_by_22_Kernel : Cert.Pre_rolled_by_22_Kernel.Facts) (hPre_rolled_by_23_Kernel : Cert.Pre_rolled_by_23_Kernel.Facts) (hPre_rolled_by_24_Kernel : Cert.Pre_rolled_by_24_Kernel.Facts) (hPre_rolled_by_25_Kernel : Cert.Pre_rolled_by_25_Kernel.Facts) (hPre_rolled_by_26_Kernel : Cert.Pre_rolled_by_26_Kernel.Facts) (hPre_rolled_by_27_Kernel : Cert.Pre_rolled_by_27_Kernel.Facts) (hPre_rolled_by_28_Kernel : Cert.Pre_rolled_by_28_Kernel.Facts) (hPre_rolled_by_29_Kernel : Cert.Pre_rolled_by_29_Kernel.Facts) (hPre_rolled_by_30_Kernel : Cert.Pre_rolled_by_30_Kernel.Facts) (hPre_rolled_by_31_Kernel : Cert.Pre_rolled_by_31_Kernel.Facts),
    quiescent_ReferenceIdeal (hReferenceIdeal := hReferenceIdeal)
    ∧ quiescent_ReferenceIdeal_pre_rolled_by_0_ReferenceIdeal (hReferenceIdeal := hReferenceIdeal) (hPre_rolled_by_0_ReferenceIdeal := hPre_rolled_by_0_ReferenceIdeal)
    ∧ quiescent_ReferenceIdeal_pre_rolled_by_1_ReferenceIdeal (hReferenceIdeal := hReferenceIdeal) (hPre_rolled_by_1_ReferenceIdeal := hPre_rolled_by_1_ReferenceIdeal)
    ∧ quiescent_ReferenceIdeal_pre_rolled_by_2_ReferenceIdeal (hReferenceIdeal := hReferenceIdeal) (hPre_rolled_by_2_ReferenceIdeal := hPre_rolled_by_2_ReferenceIdeal)
    ∧ quiescent_ReferenceIdeal_pre_rolled_by_3_ReferenceIdeal (hReferenceIdeal := hReferenceIdeal) (hPre_rolled_by_3_ReferenceIdeal := hPre_rolled_by_3_ReferenceIdeal)
    ∧ quiescent_ReferenceIdeal_pre_rolled_by_4_ReferenceIdeal (hReferenceIdeal := hReferenceIdeal) (hPre_rolled_by_4_ReferenceIdeal := hPre_rolled_by_4_ReferenceIdeal)
    ∧ quiescent_ReferenceIdeal_pre_rolled_by_5_ReferenceIdeal (hReferenceIdeal := hReferenceIdeal) (hPre_rolled_by_5_ReferenceIdeal := hPre_rolled_by_5_ReferenceIdeal)
    ∧ quiescent_ReferenceIdeal_pre_rolled_by_6_ReferenceIdeal (hReferenceIdeal := hReferenceIdeal) (hPre_rolled_by_6_ReferenceIdeal := hPre_rolled_by_6_ReferenceIdeal)
    ∧ quiescent_ReferenceIdeal_pre_rolled_by_7_ReferenceIdeal (hReferenceIdeal := hReferenceIdeal) (hPre_rolled_by_7_ReferenceIdeal := hPre_rolled_by_7_ReferenceIdeal)
    ∧ quiescent_ReferenceIdeal_pre_rolled_by_8_ReferenceIdeal (hReferenceIdeal := hReferenceIdeal) (hPre_rolled_by_8_ReferenceIdeal := hPre_rolled_by_8_ReferenceIdeal)
    ∧ quiescent_ReferenceIdeal_pre_rolled_by_9_ReferenceIdeal (hReferenceIdeal := hReferenceIdeal) (hPre_rolled_by_9_ReferenceIdeal := hPre_rolled_by_9_ReferenceIdeal)
    ∧ quiescent_ReferenceIdeal_pre_rolled_by_10_ReferenceIdeal (hReferenceIdeal := hReferenceIdeal) (hPre_rolled_by_10_ReferenceIdeal := hPre_rolled_by_10_ReferenceIdeal)
    ∧ quiescent_ReferenceIdeal_pre_rolled_by_11_ReferenceIdeal (hReferenceIdeal := hReferenceIdeal) (hPre_rolled_by_11_ReferenceIdeal := hPre_rolled_by_11_ReferenceIdeal)
    ∧ quiescent_ReferenceIdeal_pre_rolled_by_12_ReferenceIdeal (hReferenceIdeal := hReferenceIdeal) (hPre_rolled_by_12_ReferenceIdeal := hPre_rolled_by_12_ReferenceIdeal)
    ∧ quiescent_ReferenceIdeal_pre_rolled_by_13_ReferenceIdeal (hReferenceIdeal := hReferenceIdeal) (hPre_rolled_by_13_ReferenceIdeal := hPre_rolled_by_13_ReferenceIdeal)
    ∧ quiescent_ReferenceIdeal_pre_rolled_by_14_ReferenceIdeal (hReferenceIdeal := hReferenceIdeal) (hPre_rolled_by_14_ReferenceIdeal := hPre_rolled_by_14_ReferenceIdeal)
    ∧ quiescent_ReferenceIdeal_pre_rolled_by_15_ReferenceIdeal (hReferenceIdeal := hReferenceIdeal) (hPre_rolled_by_15_ReferenceIdeal := hPre_rolled_by_15_ReferenceIdeal)
    ∧ quiescent_ReferenceIdeal_pre_rolled_by_16_ReferenceIdeal (hReferenceIdeal := hReferenceIdeal) (hPre_rolled_by_16_ReferenceIdeal := hPre_rolled_by_16_ReferenceIdeal)
    ∧ quiescent_ReferenceIdeal_pre_rolled_by_17_ReferenceIdeal (hReferenceIdeal := hReferenceIdeal) (hPre_rolled_by_17_ReferenceIdeal := hPre_rolled_by_17_ReferenceIdeal)
    ∧ quiescent_ReferenceIdeal_pre_rolled_by_18_ReferenceIdeal (hReferenceIdeal := hReferenceIdeal) (hPre_rolled_by_18_ReferenceIdeal := hPre_rolled_by_18_ReferenceIdeal)
    ∧ quiescent_ReferenceIdeal_pre_rolled_by_19_ReferenceIdeal (hReferenceIdeal := hReferenceIdeal) (hPre_rolled_by_19_ReferenceIdeal := hPre_rolled_by_19_ReferenceIdeal)
    ∧ quiescent_ReferenceIdeal_pre_rolled_by_20_ReferenceIdeal (hReferenceIdeal := hReferenceIdeal) (hPre_rolled_by_20_ReferenceIdeal := hPre_rolled_by_20_ReferenceIdeal)
    ∧ quiescent_ReferenceIdeal_pre_rolled_by_21_ReferenceIdeal (hReferenceIdeal := hReferenceIdeal) (hPre_rolled_by_21_ReferenceIdeal := hPre_rolled_by_21_ReferenceIdeal)
    ∧ quiescent_ReferenceIdeal_pre_rolled_by_22_ReferenceIdeal (hReferenceIdeal := hReferenceIdeal) (hPre_rolled_by_22_ReferenceIdeal := hPre_rolled_by_22_ReferenceIdeal)
    ∧ quiescent_ReferenceIdeal_pre_rolled_by_23_ReferenceIdeal (hReferenceIdeal := hReferenceIdeal) (hPre_rolled_by_23_ReferenceIdeal := hPre_rolled_by_23_ReferenceIdeal)
    ∧ quiescent_ReferenceIdeal_pre_rolled_by_24_ReferenceIdeal (hReferenceIdeal := hReferenceIdeal) (hPre_rolled_by_24_ReferenceIdeal := hPre_rolled_by_24_ReferenceIdeal)
    ∧ quiescent_ReferenceIdeal_pre_rolled_by_25_ReferenceIdeal (hReferenceIdeal := hReferenceIdeal) (hPre_rolled_by_25_ReferenceIdeal := hPre_rolled_by_25_ReferenceIdeal)
    ∧ quiescent_ReferenceIdeal_pre_rolled_by_26_ReferenceIdeal (hReferenceIdeal := hReferenceIdeal) (hPre_rolled_by_26_ReferenceIdeal := hPre_rolled_by_26_ReferenceIdeal)
    ∧ quiescent_ReferenceIdeal_pre_rolled_by_27_ReferenceIdeal (hReferenceIdeal := hReferenceIdeal) (hPre_rolled_by_27_ReferenceIdeal := hPre_rolled_by_27_ReferenceIdeal)
    ∧ quiescent_ReferenceIdeal_pre_rolled_by_28_ReferenceIdeal (hReferenceIdeal := hReferenceIdeal) (hPre_rolled_by_28_ReferenceIdeal := hPre_rolled_by_28_ReferenceIdeal)
    ∧ quiescent_ReferenceIdeal_pre_rolled_by_29_ReferenceIdeal (hReferenceIdeal := hReferenceIdeal) (hPre_rolled_by_29_ReferenceIdeal := hPre_rolled_by_29_ReferenceIdeal)
    ∧ quiescent_ReferenceIdeal_pre_rolled_by_30_ReferenceIdeal (hReferenceIdeal := hReferenceIdeal) (hPre_rolled_by_30_ReferenceIdeal := hPre_rolled_by_30_ReferenceIdeal)
    ∧ quiescent_ReferenceIdeal_pre_rolled_by_31_ReferenceIdeal (hReferenceIdeal := hReferenceIdeal) (hPre_rolled_by_31_ReferenceIdeal := hPre_rolled_by_31_ReferenceIdeal)
    ∧ quiescent_Kernel (hKernel := hKernel) (hPre_rolled_by_0_Kernel := hPre_rolled_by_0_Kernel)
    ∧ quiescent_Kernel_pre_rolled_by_1_Kernel (hKernel := hKernel) (hPre_rolled_by_1_Kernel := hPre_rolled_by_1_Kernel)
    ∧ quiescent_Kernel_pre_rolled_by_2_Kernel (hKernel := hKernel) (hPre_rolled_by_2_Kernel := hPre_rolled_by_2_Kernel)
    ∧ quiescent_Kernel_pre_rolled_by_3_Kernel (hKernel := hKernel) (hPre_rolled_by_3_Kernel := hPre_rolled_by_3_Kernel)
    ∧ quiescent_Kernel_pre_rolled_by_4_Kernel (hKernel := hKernel) (hPre_rolled_by_4_Kernel := hPre_rolled_by_4_Kernel)
    ∧ quiescent_Kernel_pre_rolled_by_5_Kernel (hKernel := hKernel) (hPre_rolled_by_5_Kernel := hPre_rolled_by_5_Kernel)
    ∧ quiescent_Kernel_pre_rolled_by_6_Kernel (hKernel := hKernel) (hPre_rolled_by_6_Kernel := hPre_rolled_by_6_Kernel)
    ∧ quiescent_Kernel_pre_rolled_by_7_Kernel (hKernel := hKernel) (hPre_rolled_by_7_Kernel := hPre_rolled_by_7_Kernel)
    ∧ quiescent_Kernel_pre_rolled_by_8_Kernel (hKernel := hKernel) (hPre_rolled_by_8_Kernel := hPre_rolled_by_8_Kernel)
    ∧ quiescent_Kernel_pre_rolled_by_9_Kernel (hKernel := hKernel) (hPre_rolled_by_9_Kernel := hPre_rolled_by_9_Kernel)
    ∧ quiescent_Kernel_pre_rolled_by_10_Kernel (hKernel := hKernel) (hPre_rolled_by_10_Kernel := hPre_rolled_by_10_Kernel)
    ∧ quiescent_Kernel_pre_rolled_by_11_Kernel (hKernel := hKernel) (hPre_rolled_by_11_Kernel := hPre_rolled_by_11_Kernel)
    ∧ quiescent_Kernel_pre_rolled_by_12_Kernel (hKernel := hKernel) (hPre_rolled_by_12_Kernel := hPre_rolled_by_12_Kernel)
    ∧ quiescent_Kernel_pre_rolled_by_13_Kernel (hKernel := hKernel) (hPre_rolled_by_13_Kernel := hPre_rolled_by_13_Kernel)
    ∧ quiescent_Kernel_pre_rolled_by_14_Kernel (hKernel := hKernel) (hPre_rolled_by_14_Kernel := hPre_rolled_by_14_Kernel)
    ∧ quiescent_Kernel_pre_rolled_by_15_Kernel (hKernel := hKernel) (hPre_rolled_by_15_Kernel := hPre_rolled_by_15_Kernel)
    ∧ quiescent_Kernel_pre_rolled_by_16_Kernel (hKernel := hKernel) (hPre_rolled_by_16_Kernel := hPre_rolled_by_16_Kernel)
    ∧ quiescent_Kernel_pre_rolled_by_17_Kernel (hKernel := hKernel) (hPre_rolled_by_17_Kernel := hPre_rolled_by_17_Kernel)
    ∧ quiescent_Kernel_pre_rolled_by_18_Kernel (hKernel := hKernel) (hPre_rolled_by_18_Kernel := hPre_rolled_by_18_Kernel)
    ∧ quiescent_Kernel_pre_rolled_by_19_Kernel (hKernel := hKernel) (hPre_rolled_by_19_Kernel := hPre_rolled_by_19_Kernel)
    ∧ quiescent_Kernel_pre_rolled_by_20_Kernel (hKernel := hKernel) (hPre_rolled_by_20_Kernel := hPre_rolled_by_20_Kernel)
    ∧ quiescent_Kernel_pre_rolled_by_21_Kernel (hKernel := hKernel) (hPre_rolled_by_21_Kernel := hPre_rolled_by_21_Kernel)
    ∧ quiescent_Kernel_pre_rolled_by_22_Kernel (hKernel := hKernel) (hPre_rolled_by_22_Kernel := hPre_rolled_by_22_Kernel)
    ∧ quiescent_Kernel_pre_rolled_by_23_Kernel (hKernel := hKernel) (hPre_rolled_by_23_Kernel := hPre_rolled_by_23_Kernel)
    ∧ quiescent_Kernel_pre_rolled_by_24_Kernel (hKernel := hKernel) (hPre_rolled_by_24_Kernel := hPre_rolled_by_24_Kernel)
    ∧ quiescent_Kernel_pre_rolled_by_25_Kernel (hKernel := hKernel) (hPre_rolled_by_25_Kernel := hPre_rolled_by_25_Kernel)
    ∧ quiescent_Kernel_pre_rolled_by_26_Kernel (hKernel := hKernel) (hPre_rolled_by_26_Kernel := hPre_rolled_by_26_Kernel)
    ∧ quiescent_Kernel_pre_rolled_by_27_Kernel (hKernel := hKernel) (hPre_rolled_by_27_Kernel := hPre_rolled_by_27_Kernel)
    ∧ quiescent_Kernel_pre_rolled_by_28_Kernel (hKernel := hKernel) (hPre_rolled_by_28_Kernel := hPre_rolled_by_28_Kernel)
    ∧ quiescent_Kernel_pre_rolled_by_29_Kernel (hKernel := hKernel) (hPre_rolled_by_29_Kernel := hPre_rolled_by_29_Kernel)
    ∧ quiescent_Kernel_pre_rolled_by_30_Kernel (hKernel := hKernel) (hPre_rolled_by_30_Kernel := hPre_rolled_by_30_Kernel)
    ∧ quiescent_Kernel_pre_rolled_by_31_Kernel (hKernel := hKernel) (hPre_rolled_by_31_Kernel := hPre_rolled_by_31_Kernel)
    ∧ quiescent_KernelIdeal (hKernelIdeal := hKernelIdeal) (hPre_rolled_by_0_Kernel := hPre_rolled_by_0_Kernel)
    ∧ quiescent_KernelIdeal_pre_rolled_by_1_Kernel (hKernelIdeal := hKernelIdeal) (hPre_rolled_by_1_Kernel := hPre_rolled_by_1_Kernel)
    ∧ quiescent_KernelIdeal_pre_rolled_by_2_Kernel (hKernelIdeal := hKernelIdeal) (hPre_rolled_by_2_Kernel := hPre_rolled_by_2_Kernel)
    ∧ quiescent_KernelIdeal_pre_rolled_by_3_Kernel (hKernelIdeal := hKernelIdeal) (hPre_rolled_by_3_Kernel := hPre_rolled_by_3_Kernel)
    ∧ quiescent_KernelIdeal_pre_rolled_by_4_Kernel (hKernelIdeal := hKernelIdeal) (hPre_rolled_by_4_Kernel := hPre_rolled_by_4_Kernel)
    ∧ quiescent_KernelIdeal_pre_rolled_by_5_Kernel (hKernelIdeal := hKernelIdeal) (hPre_rolled_by_5_Kernel := hPre_rolled_by_5_Kernel)
    ∧ quiescent_KernelIdeal_pre_rolled_by_6_Kernel (hKernelIdeal := hKernelIdeal) (hPre_rolled_by_6_Kernel := hPre_rolled_by_6_Kernel)
    ∧ quiescent_KernelIdeal_pre_rolled_by_7_Kernel (hKernelIdeal := hKernelIdeal) (hPre_rolled_by_7_Kernel := hPre_rolled_by_7_Kernel)
    ∧ quiescent_KernelIdeal_pre_rolled_by_8_Kernel (hKernelIdeal := hKernelIdeal) (hPre_rolled_by_8_Kernel := hPre_rolled_by_8_Kernel)
    ∧ quiescent_KernelIdeal_pre_rolled_by_9_Kernel (hKernelIdeal := hKernelIdeal) (hPre_rolled_by_9_Kernel := hPre_rolled_by_9_Kernel)
    ∧ quiescent_KernelIdeal_pre_rolled_by_10_Kernel (hKernelIdeal := hKernelIdeal) (hPre_rolled_by_10_Kernel := hPre_rolled_by_10_Kernel)
    ∧ quiescent_KernelIdeal_pre_rolled_by_11_Kernel (hKernelIdeal := hKernelIdeal) (hPre_rolled_by_11_Kernel := hPre_rolled_by_11_Kernel)
    ∧ quiescent_KernelIdeal_pre_rolled_by_12_Kernel (hKernelIdeal := hKernelIdeal) (hPre_rolled_by_12_Kernel := hPre_rolled_by_12_Kernel)
    ∧ quiescent_KernelIdeal_pre_rolled_by_13_Kernel (hKernelIdeal := hKernelIdeal) (hPre_rolled_by_13_Kernel := hPre_rolled_by_13_Kernel)
    ∧ quiescent_KernelIdeal_pre_rolled_by_14_Kernel (hKernelIdeal := hKernelIdeal) (hPre_rolled_by_14_Kernel := hPre_rolled_by_14_Kernel)
    ∧ quiescent_KernelIdeal_pre_rolled_by_15_Kernel (hKernelIdeal := hKernelIdeal) (hPre_rolled_by_15_Kernel := hPre_rolled_by_15_Kernel)
    ∧ quiescent_KernelIdeal_pre_rolled_by_16_Kernel (hKernelIdeal := hKernelIdeal) (hPre_rolled_by_16_Kernel := hPre_rolled_by_16_Kernel)
    ∧ quiescent_KernelIdeal_pre_rolled_by_17_Kernel (hKernelIdeal := hKernelIdeal) (hPre_rolled_by_17_Kernel := hPre_rolled_by_17_Kernel)
    ∧ quiescent_KernelIdeal_pre_rolled_by_18_Kernel (hKernelIdeal := hKernelIdeal) (hPre_rolled_by_18_Kernel := hPre_rolled_by_18_Kernel)
    ∧ quiescent_KernelIdeal_pre_rolled_by_19_Kernel (hKernelIdeal := hKernelIdeal) (hPre_rolled_by_19_Kernel := hPre_rolled_by_19_Kernel)
    ∧ quiescent_KernelIdeal_pre_rolled_by_20_Kernel (hKernelIdeal := hKernelIdeal) (hPre_rolled_by_20_Kernel := hPre_rolled_by_20_Kernel)
    ∧ quiescent_KernelIdeal_pre_rolled_by_21_Kernel (hKernelIdeal := hKernelIdeal) (hPre_rolled_by_21_Kernel := hPre_rolled_by_21_Kernel)
    ∧ quiescent_KernelIdeal_pre_rolled_by_22_Kernel (hKernelIdeal := hKernelIdeal) (hPre_rolled_by_22_Kernel := hPre_rolled_by_22_Kernel)
    ∧ quiescent_KernelIdeal_pre_rolled_by_23_Kernel (hKernelIdeal := hKernelIdeal) (hPre_rolled_by_23_Kernel := hPre_rolled_by_23_Kernel)
    ∧ quiescent_KernelIdeal_pre_rolled_by_24_Kernel (hKernelIdeal := hKernelIdeal) (hPre_rolled_by_24_Kernel := hPre_rolled_by_24_Kernel)
    ∧ quiescent_KernelIdeal_pre_rolled_by_25_Kernel (hKernelIdeal := hKernelIdeal) (hPre_rolled_by_25_Kernel := hPre_rolled_by_25_Kernel)
    ∧ quiescent_KernelIdeal_pre_rolled_by_26_Kernel (hKernelIdeal := hKernelIdeal) (hPre_rolled_by_26_Kernel := hPre_rolled_by_26_Kernel)
    ∧ quiescent_KernelIdeal_pre_rolled_by_27_Kernel (hKernelIdeal := hKernelIdeal) (hPre_rolled_by_27_Kernel := hPre_rolled_by_27_Kernel)
    ∧ quiescent_KernelIdeal_pre_rolled_by_28_Kernel (hKernelIdeal := hKernelIdeal) (hPre_rolled_by_28_Kernel := hPre_rolled_by_28_Kernel)
    ∧ quiescent_KernelIdeal_pre_rolled_by_29_Kernel (hKernelIdeal := hKernelIdeal) (hPre_rolled_by_29_Kernel := hPre_rolled_by_29_Kernel)
    ∧ quiescent_KernelIdeal_pre_rolled_by_30_Kernel (hKernelIdeal := hKernelIdeal) (hPre_rolled_by_30_Kernel := hPre_rolled_by_30_Kernel)
    ∧ quiescent_KernelIdeal_pre_rolled_by_31_Kernel (hKernelIdeal := hKernelIdeal) (hPre_rolled_by_31_Kernel := hPre_rolled_by_31_Kernel)
    ∧ preserves_Kernel_KernelIdeal
    ∧ algebraic_KernelIdeal_ReferenceIdeal (hKernelIdeal := hKernelIdeal) (hReferenceIdeal := hReferenceIdeal) (hPre_rolled_by_0_Kernel := hPre_rolled_by_0_Kernel)
    ∧ algebraic_KernelIdeal_ReferenceIdeal_pre_rolled_by_1_Kernel (hKernelIdeal := hKernelIdeal) (hReferenceIdeal := hReferenceIdeal) (hPre_rolled_by_1_Kernel := hPre_rolled_by_1_Kernel)
    ∧ algebraic_KernelIdeal_ReferenceIdeal_pre_rolled_by_2_Kernel (hKernelIdeal := hKernelIdeal) (hReferenceIdeal := hReferenceIdeal) (hPre_rolled_by_2_Kernel := hPre_rolled_by_2_Kernel)
    ∧ algebraic_KernelIdeal_ReferenceIdeal_pre_rolled_by_3_Kernel (hKernelIdeal := hKernelIdeal) (hReferenceIdeal := hReferenceIdeal) (hPre_rolled_by_3_Kernel := hPre_rolled_by_3_Kernel)
    ∧ algebraic_KernelIdeal_ReferenceIdeal_pre_rolled_by_4_Kernel (hKernelIdeal := hKernelIdeal) (hReferenceIdeal := hReferenceIdeal) (hPre_rolled_by_4_Kernel := hPre_rolled_by_4_Kernel)
    ∧ algebraic_KernelIdeal_ReferenceIdeal_pre_rolled_by_5_Kernel (hKernelIdeal := hKernelIdeal) (hReferenceIdeal := hReferenceIdeal) (hPre_rolled_by_5_Kernel := hPre_rolled_by_5_Kernel)
    ∧ algebraic_KernelIdeal_ReferenceIdeal_pre_rolled_by_6_Kernel (hKernelIdeal := hKernelIdeal) (hReferenceIdeal := hReferenceIdeal) (hPre_rolled_by_6_Kernel := hPre_rolled_by_6_Kernel)
    ∧ algebraic_KernelIdeal_ReferenceIdeal_pre_rolled_by_7_Kernel (hKernelIdeal := hKernelIdeal) (hReferenceIdeal := hReferenceIdeal) (hPre_rolled_by_7_Kernel := hPre_rolled_by_7_Kernel)
    ∧ algebraic_KernelIdeal_ReferenceIdeal_pre_rolled_by_8_Kernel (hKernelIdeal := hKernelIdeal) (hReferenceIdeal := hReferenceIdeal) (hPre_rolled_by_8_Kernel := hPre_rolled_by_8_Kernel)
    ∧ algebraic_KernelIdeal_ReferenceIdeal_pre_rolled_by_9_Kernel (hKernelIdeal := hKernelIdeal) (hReferenceIdeal := hReferenceIdeal) (hPre_rolled_by_9_Kernel := hPre_rolled_by_9_Kernel)
    ∧ algebraic_KernelIdeal_ReferenceIdeal_pre_rolled_by_10_Kernel (hKernelIdeal := hKernelIdeal) (hReferenceIdeal := hReferenceIdeal) (hPre_rolled_by_10_Kernel := hPre_rolled_by_10_Kernel)
    ∧ algebraic_KernelIdeal_ReferenceIdeal_pre_rolled_by_11_Kernel (hKernelIdeal := hKernelIdeal) (hReferenceIdeal := hReferenceIdeal) (hPre_rolled_by_11_Kernel := hPre_rolled_by_11_Kernel)
    ∧ algebraic_KernelIdeal_ReferenceIdeal_pre_rolled_by_12_Kernel (hKernelIdeal := hKernelIdeal) (hReferenceIdeal := hReferenceIdeal) (hPre_rolled_by_12_Kernel := hPre_rolled_by_12_Kernel)
    ∧ algebraic_KernelIdeal_ReferenceIdeal_pre_rolled_by_13_Kernel (hKernelIdeal := hKernelIdeal) (hReferenceIdeal := hReferenceIdeal) (hPre_rolled_by_13_Kernel := hPre_rolled_by_13_Kernel)
    ∧ algebraic_KernelIdeal_ReferenceIdeal_pre_rolled_by_14_Kernel (hKernelIdeal := hKernelIdeal) (hReferenceIdeal := hReferenceIdeal) (hPre_rolled_by_14_Kernel := hPre_rolled_by_14_Kernel)
    ∧ algebraic_KernelIdeal_ReferenceIdeal_pre_rolled_by_15_Kernel (hKernelIdeal := hKernelIdeal) (hReferenceIdeal := hReferenceIdeal) (hPre_rolled_by_15_Kernel := hPre_rolled_by_15_Kernel)
    ∧ algebraic_KernelIdeal_ReferenceIdeal_pre_rolled_by_16_Kernel (hKernelIdeal := hKernelIdeal) (hReferenceIdeal := hReferenceIdeal) (hPre_rolled_by_16_Kernel := hPre_rolled_by_16_Kernel)
    ∧ algebraic_KernelIdeal_ReferenceIdeal_pre_rolled_by_17_Kernel (hKernelIdeal := hKernelIdeal) (hReferenceIdeal := hReferenceIdeal) (hPre_rolled_by_17_Kernel := hPre_rolled_by_17_Kernel)
    ∧ algebraic_KernelIdeal_ReferenceIdeal_pre_rolled_by_18_Kernel (hKernelIdeal := hKernelIdeal) (hReferenceIdeal := hReferenceIdeal) (hPre_rolled_by_18_Kernel := hPre_rolled_by_18_Kernel)
    ∧ algebraic_KernelIdeal_ReferenceIdeal_pre_rolled_by_19_Kernel (hKernelIdeal := hKernelIdeal) (hReferenceIdeal := hReferenceIdeal) (hPre_rolled_by_19_Kernel := hPre_rolled_by_19_Kernel)
    ∧ algebraic_KernelIdeal_ReferenceIdeal_pre_rolled_by_20_Kernel (hKernelIdeal := hKernelIdeal) (hReferenceIdeal := hReferenceIdeal) (hPre_rolled_by_20_Kernel := hPre_rolled_by_20_Kernel)
    ∧ algebraic_KernelIdeal_ReferenceIdeal_pre_rolled_by_21_Kernel (hKernelIdeal := hKernelIdeal) (hReferenceIdeal := hReferenceIdeal) (hPre_rolled_by_21_Kernel := hPre_rolled_by_21_Kernel)
    ∧ algebraic_KernelIdeal_ReferenceIdeal_pre_rolled_by_22_Kernel (hKernelIdeal := hKernelIdeal) (hReferenceIdeal := hReferenceIdeal) (hPre_rolled_by_22_Kernel := hPre_rolled_by_22_Kernel)
    ∧ algebraic_KernelIdeal_ReferenceIdeal_pre_rolled_by_23_Kernel (hKernelIdeal := hKernelIdeal) (hReferenceIdeal := hReferenceIdeal) (hPre_rolled_by_23_Kernel := hPre_rolled_by_23_Kernel)
    ∧ algebraic_KernelIdeal_ReferenceIdeal_pre_rolled_by_24_Kernel (hKernelIdeal := hKernelIdeal) (hReferenceIdeal := hReferenceIdeal) (hPre_rolled_by_24_Kernel := hPre_rolled_by_24_Kernel)
    ∧ algebraic_KernelIdeal_ReferenceIdeal_pre_rolled_by_25_Kernel (hKernelIdeal := hKernelIdeal) (hReferenceIdeal := hReferenceIdeal) (hPre_rolled_by_25_Kernel := hPre_rolled_by_25_Kernel)
    ∧ algebraic_KernelIdeal_ReferenceIdeal_pre_rolled_by_26_Kernel (hKernelIdeal := hKernelIdeal) (hReferenceIdeal := hReferenceIdeal) (hPre_rolled_by_26_Kernel := hPre_rolled_by_26_Kernel)
    ∧ algebraic_KernelIdeal_ReferenceIdeal_pre_rolled_by_27_Kernel (hKernelIdeal := hKernelIdeal) (hReferenceIdeal := hReferenceIdeal) (hPre_rolled_by_27_Kernel := hPre_rolled_by_27_Kernel)
    ∧ algebraic_KernelIdeal_ReferenceIdeal_pre_rolled_by_28_Kernel (hKernelIdeal := hKernelIdeal) (hReferenceIdeal := hReferenceIdeal) (hPre_rolled_by_28_Kernel := hPre_rolled_by_28_Kernel)
    ∧ algebraic_KernelIdeal_ReferenceIdeal_pre_rolled_by_29_Kernel (hKernelIdeal := hKernelIdeal) (hReferenceIdeal := hReferenceIdeal) (hPre_rolled_by_29_Kernel := hPre_rolled_by_29_Kernel)
    ∧ algebraic_KernelIdeal_ReferenceIdeal_pre_rolled_by_30_Kernel (hKernelIdeal := hKernelIdeal) (hReferenceIdeal := hReferenceIdeal) (hPre_rolled_by_30_Kernel := hPre_rolled_by_30_Kernel)
    ∧ algebraic_KernelIdeal_ReferenceIdeal_pre_rolled_by_31_Kernel (hKernelIdeal := hKernelIdeal) (hReferenceIdeal := hReferenceIdeal) (hPre_rolled_by_31_Kernel := hPre_rolled_by_31_Kernel)
-- ==== Pre_rolled_by_0_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 32#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_0_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 32#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_10_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 22#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_10_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 22#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_11_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 21#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_11_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 21#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_12_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 20#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_12_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 20#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_13_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 19#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_13_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 19#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_14_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 18#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_14_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 18#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_15_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 17#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_15_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 17#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_16_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 16#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_16_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 16#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_17_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_17_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_18_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 14#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_18_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 14#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_19_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 13#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_19_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 13#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_1_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 31#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_1_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 31#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_20_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 12#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_20_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 12#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_21_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 11#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_21_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 11#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_22_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 10#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_22_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 10#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_23_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 9#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_23_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 9#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_24_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 8#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_24_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 8#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_25_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 7#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_25_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 7#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_26_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 6#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_26_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 6#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_27_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 5#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_27_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 5#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_28_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_28_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_29_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 3#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_29_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 3#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_2_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 30#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_2_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 30#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_30_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 2#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_30_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 2#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_31_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 1#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_31_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 1#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_3_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 29#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_3_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 29#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_4_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 28#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_4_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 28#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_5_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 27#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_5_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 27#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_6_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 26#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_6_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 26#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_7_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 25#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_7_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 25#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_8_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 24#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_8_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 24#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_9_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .bf16) (main_arg1 : IVec S32 32) : IVec S32 1 :=
  let main_v0 : IVec S32 32 := iotaInDim S32 32 0
  let main_c : IVec S_ 32 := constantI S_ 32 23#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_by_9_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .bf16) (main_arg1 : IVec S32 32) : IVec S32 1 :=
  let main_v0 : IVec S32 32 := iotaInDim S32 32 0
  let main_c : IVec S_ 32 := constantI S_ 32 23#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== ReferenceIdeal.lean ====
abbrev S32x512x512 : Shape := ⟨3, ![32, 512, 512]⟩
abbrev S32 : Shape := ⟨1, ![32]⟩
abbrev S_ : Shape := ⟨0, ![]⟩
abbrev S32x1 : Shape := ⟨2, ![32, 1]⟩

abbrev nBuf : Space → Nat
  | .hbm => 16
  | .vmem => 0
  | .smem => 0
  | _ => 0

abbrev bufTy : (tb : Table) → Fin (tcTables nBuf tb) → BufTy
  | .hbm, ⟨0, _⟩ => ⟨S32x512x512, .bf16⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x512x512, .bf16⟩
  | .hbm, ⟨14, _⟩ => ⟨S32x512x512, .f32⟩
  | .hbm, ⟨15, _⟩ => ⟨S32x512x512, .bf16⟩
  | _, _ => ⟨S32x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel.lean ====
abbrev S1x512x512 : Shape := ⟨3, ![1, 512, 512]⟩
abbrev S32 : Shape := ⟨1, ![32]⟩
abbrev S512x512 : Shape := ⟨2, ![512, 512]⟩
abbrev S4 : Shape := ⟨1, ![4]⟩
abbrev S_ : Shape := ⟨0, ![]⟩
abbrev S1 : Shape := ⟨1, ![1]⟩
abbrev S1x128x512 : Shape := ⟨3, ![1, 128, 512]⟩
abbrev S128x512 : Shape := ⟨2, ![128, 512]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S32, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S512x512, .bf16⟩
  | .local _ .smem, ⟨0, _⟩ => ⟨S32, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 2 → Bool
  | ⟨0, _⟩ => true
  | ⟨1, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
@[reducible] def k0_t1_loop : Scf.Loop 32 :=
  let c0_i32_0 : BitVec 32 := 0#32
  let c32_i32_1 : BitVec 32 := 32#32
  let v5 : BitVec 32 := Scalar.addi c0_i32_0 c32_i32_1
  let c1_i32_2 : BitVec 32 := 1#32
  ⟨c0_i32_0, v5, c1_i32_2⟩
def k0_off2 (k0_t1 : Fin k0_t1_loop.trips) : Fin 1 → Nat :=
  let c0_i32_0 : BitVec 32 := 0#32
  let c1_i32_2 : BitVec 32 := 1#32
  let arg7 : BitVec 32 := Scf.iv c0_i32_0 c1_i32_2 k0_t1
  let v96 : Index := Scalar.indexCast arg7
  ![v96.toNat]
def k0_dev1 (v4 : BitVec 32) : Nat :=
  v4.toNat

def k0_dev2 (v6 : BitVec 32) : Nat :=
  v6.toNat

def k0_dev3 (v4 : BitVec 32) : Nat :=
  v4.toNat
def k0_dev4 (v4 : BitVec 32) : Nat :=
  v4.toNat
def k0_dev5 (v4 : BitVec 32) : Nat :=
  v4.toNat
def k0_dev6 (v4 : BitVec 32) : Nat :=
  v4.toNat

def k0_chk1 (v4 : BitVec 32) : Prop :=
  ((k0_dev1 v4) < nD) ∧
  ((k0_dev3 v4) < nD) ∧
  ((k0_dev4 v4) < nD) ∧
  ((k0_dev5 v4) < nD) ∧
  ((k0_dev6 v4) < nD)
theorem k0_dev1_lt : ∀ (v4 : BitVec 32) (k0_hw1 : k0_chk1 v4), (k0_dev1 v4) < nD := fun v4 k0_hw1 => k0_hw1.1
theorem k0_dev3_lt : ∀ (v4 : BitVec 32) (k0_hw1 : k0_chk1 v4), (k0_dev3 v4) < nD := fun v4 k0_hw1 => k0_hw1.2.1
theorem k0_dev4_lt : ∀ (v4 : BitVec 32) (k0_hw1 : k0_chk1 v4), (k0_dev4 v4) < nD := fun v4 k0_hw1 => k0_hw1.2.2.1
theorem k0_dev5_lt : ∀ (v4 : BitVec 32) (k0_hw1 : k0_chk1 v4), (k0_dev5 v4) < nD := fun v4 k0_hw1 => k0_hw1.2.2.2.1
theorem k0_dev6_lt : ∀ (v4 : BitVec 32) (k0_hw1 : k0_chk1 v4), (k0_dev6 v4) < nD := fun v4 k0_hw1 => k0_hw1.2.2.2.2

def k0_dev7 (v6 : BitVec 32) : Nat :=
  v6.toNat

def k0_chk2 (v6 : BitVec 32) : Prop :=
  ((k0_dev2 v6) < nD) ∧
  ((k0_dev7 v6) < nD)
theorem k0_dev2_lt : ∀ (v6 : BitVec 32) (k0_hw2 : k0_chk2 v6), (k0_dev2 v6) < nD := fun v6 k0_hw2 => k0_hw2.1
theorem k0_dev7_lt : ∀ (v6 : BitVec 32) (k0_hw2 : k0_chk2 v6), (k0_dev7 v6) < nD := fun v6 k0_hw2 => k0_hw2.2

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Cells.lean ====
/-
The vocabulary of the proof: the resource algebra, the semaphore cells of one device, the four row chunks of the
result's staging buffer and of the communication buffer, and how a whole buffer splits into its chunks.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Ring

@[expose] public section

noncomputable section

namespace Cert.Route

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The rounds algebra over the machine's cells, duties named by a `Bool`. -/
abbrev UB : Type := URounds (GSem nD τ sig) Bool
/-- The pipeline's algebra beside it. -/
abbrev UU : Type := UR sig nD τ × UB

local notation "𝕄" => MT nD τ sig Unit (Elt F) ℕ UU ℕ

/-- The pipeline's share of the algebra. -/
abbrev EP : Emb (UR sig nD τ) (MT nD τ sig Unit (Elt F) ℕ UU ℕ) := embL
/-- The exchange's share of the algebra. -/
abbrev ER : Emb UB (MT nD τ sig Unit (Elt F) ℕ UU ℕ) := embR

/-! ## Buffers and their row chunks -/

/-- The staged routing table. -/
abbrev tM : Memref sig .tc .smem S32 .i32 := Memref.whole cc0_stg0_0
/-- The staged `x` block. -/
abbrev xM : Memref sig .tc .vmem S1x512x512 .bf16 := Memref.whole cc0_stg1_0
/-- The result's staging buffer, in which a block lands. -/
abbrev oM : Memref sig .tc .vmem S1x512x512 .bf16 := Memref.whole cc0_stg2_0
/-- The communication buffer, from which a block is sent. -/
abbrev cM : Memref sig .tc .vmem S512x512 .bf16 := Memref.whole cc0_scratch0

theorem inbX (k : Fin 4) : ∀ a, (![0, 128 * k.val, 0] : Fin 3 → Nat) a + S1x128x512.size a ≤ S1x512x512.size a := by
  revert k; decide
theorem inbC (k : Fin 4) : ∀ a, (![128 * k.val, 0] : Fin 2 → Nat) a + S128x512.size a ≤ S512x512.size a := by
  revert k; decide

/-- Rows `128 k … 128 k + 127` of a staged block. -/
abbrev rX (k : Fin 4) : Rect S1x512x512 := Rect.unit (s := S1x512x512) ![0, 128 * k.val, 0] S1x128x512.size (inbX k)
/-- Rows `128 k … 128 k + 127` of the communication buffer. -/
abbrev rC (k : Fin 4) : Rect S512x512 := Rect.unit (s := S512x512) ![128 * k.val, 0] S128x512.size (inbC k)

/-- Chunk `k` of the result's staging buffer, as a transfer names it. -/
abbrev oK (k : Fin 4) : Memref sig .tc .vmem S128x512 .bf16 :=
  (oM.slice (rX k) (fun _ => rfl)).squeeze S128x512 squeezes_S1x128x512_S128x512
/-- Chunk `k` of the communication buffer, as a transfer names it. -/
abbrev cK (k : Fin 4) : Memref sig .tc .vmem S128x512 .bf16 := cM.slice (rC k) (fun _ => rfl)

/-- The credit of one chunk's transfer. -/
abbrev N : ℕ := (cK 0).view.dmaCredit
theorem N_pos : 0 < N := View.dmaCredit_pos _ (by decide)
theorem credit_o (k : Fin 4) : (oK k).view.dmaCredit = N := rfl
theorem credit_c (k : Fin 4) : (cK k).view.dmaCredit = N := rfl

/-- The positions of a staged block that lie in its row chunk `k`. -/
abbrev oSet (k : Fin 4) : Finset S1x512x512.Idx := (rX k).set
/-- The positions of the communication buffer that lie in its row chunk `k`. -/
abbrev cSet (k : Fin 4) : Finset S512x512.Idx := (rC k).set

theorem set_oK (k : Fin 4) : (oK k).view.set = oSet k :=
  (View.set_reshape _ _).trans (View.set_slice_whole _ _)
theorem set_cK (k : Fin 4) : (cK k).view.set = cSet k := View.set_slice_whole _ _

theorem mem_oSet (k : Fin 4) (i : S1x512x512.Idx) : i ∈ oSet k ↔ (i 1).val / 128 = k.val := by
  rw [Rect.mem_set_unit]
  have h0 : (i 0).val < 1 := (i 0).isLt
  have h1 : (i 1).val < 512 := (i 1).isLt
  have h2 : (i 2).val < 512 := (i 2).isLt
  constructor
  · intro h
    have := h 1
    simp only [Matrix.cons_val_one, Matrix.cons_val_zero] at this
    have h' : 128 * k.val ≤ (i 1).val ∧ (i 1).val < 128 * k.val + 128 := this
    omega
  · intro h a
    fin_cases a
    · show 0 ≤ (i 0).val ∧ (i 0).val < 0 + 1; omega
    · show 128 * k.val ≤ (i 1).val ∧ (i 1).val < 128 * k.val + 128; omega
    · show 0 ≤ (i 2).val ∧ (i 2).val < 0 + 512; omega

theorem mem_cSet (k : Fin 4) (i : S512x512.Idx) : i ∈ cSet k ↔ (i 0).val / 128 = k.val := by
  rw [Rect.mem_set_unit]
  have h1 : (i 0).val < 512 := (i 0).isLt
  have h2 : (i 1).val < 512 := (i 1).isLt
  constructor
  · intro h
    have h' : 128 * k.val ≤ (i 0).val ∧ (i 0).val < 128 * k.val + 128 := h 0
    omega
  · intro h a
    fin_cases a
    · show 128 * k.val ≤ (i 0).val ∧ (i 0).val < 128 * k.val + 128; omega
    · show 0 ≤ (i 1).val ∧ (i 1).val < 0 + 512; omega

theorem oSet_at (i : S1x512x512.Idx) : ∃ k ∈ (Finset.univ : Finset (Fin 4)), i ∈ oSet k := by
  have h1 : (i 1).val < 512 := (i 1).isLt
  exact ⟨⟨(i 1).val / 128, by omega⟩, Finset.mem_univ _, (mem_oSet _ i).mpr rfl⟩
theorem cSet_at (i : S512x512.Idx) : ∃ k ∈ (Finset.univ : Finset (Fin 4)), i ∈ cSet k := by
  have h1 : (i 0).val < 512 := (i 0).isLt
  exact ⟨⟨(i 0).val / 128, by omega⟩, Finset.mem_univ _, (mem_cSet _ i).mpr rfl⟩
theorem oSet_disj (k k' : Fin 4) (h : k ≠ k') : Disjoint (oSet k) (oSet k') :=
  Finset.disjoint_left.mpr fun i hi hi' => h (Fin.ext (((mem_oSet k i).mp hi).symm.trans ((mem_oSet k' i).mp hi')))
theorem cSet_disj (k k' : Fin 4) (h : k ≠ k') : Disjoint (cSet k) (cSet k') :=
  Finset.disjoint_left.mpr fun i hi hi' => h (Fin.ext (((mem_cSet k i).mp hi).symm.trans ((mem_cSet k' i).mp hi')))

/-- The contents of a staged block. -/
abbrev XBuf (F : FTy → Type) : Type := (cc0_stg1_0 : Ref sig .tc).ty.Contents (Elt F)
/-- The contents of the communication buffer. -/
abbrev CBuf (F : FTy → Type) : Type := (cc0_scratch0 : Ref sig .tc).ty.Contents (Elt F)

/-- A staged block as the communication buffer holds it: its leading axis of size one dropped. -/
def flat (f : XBuf F) : CBuf F := fun i => f (ix3 (0 : Fin 1) (i 0) (i 1))

theorem emb_rX (k : Fin 4) (a : Fin 1) (r : Fin 128) (j : Fin 512) :
    (rX k).emb (ix3 a r j) = ix3 (0 : Fin 1) (⟨128 * k.val + r.val, by omega⟩ : Fin 512) j := by
  funext b
  apply Fin.ext
  rw [Rect.emb_apply]
  fin_cases b
  · show 0 + 1 * a.val = 0; omega
  · show 128 * k.val + 1 * r.val = 128 * k.val + r.val; omega
  · show 0 + 1 * j.val = j.val; omega

theorem emb_rC (k : Fin 4) (r : Fin 128) (j : Fin 512) :
    (rC k).emb (ix2 r j) = ix2 (⟨128 * k.val + r.val, by omega⟩ : Fin 512) j := by
  funext b
  apply Fin.ext
  rw [Rect.emb_apply]
  fin_cases b
  · show 128 * k.val + 1 * r.val = 128 * k.val + r.val; omega
  · show 0 + 1 * j.val = j.val; omega

/-- Where chunk `k` of the result's staging buffer places its position `(r, j)`. -/
theorem emb_oK (k : Fin 4) (r : Fin 128) (j : Fin 512) :
    (oK k).view.emb (ix2 r j) = ix3 (0 : Fin 1) (⟨128 * k.val + r.val, by omega⟩ : Fin 512) j := by
  show (rX k).emb (Shape.reshapeEquiv _ (ix2 r j)) = _
  rw [reshapeEquiv_ix2_1ab]
  exact emb_rX k _ r j

/-- A chunk of `flat f` landed in the same chunk of a staging buffer is `f` there. -/
theorem landed_chunk (k : Fin 4) (g : XBuf F) (f : XBuf F) (i : S1x512x512.Idx) (hi : i ∈ oSet k) :
    (oK k).view.write (Elt F) g ((cK k).view.read (Elt F) (flat f)) Finset.univ i = f i := by
  rw [← set_oK] at hi
  obtain ⟨y, -, rfl⟩ := Finset.mem_map.mp hi
  rw [View.write_emb_of_mem _ _ (Finset.mem_univ _)]
  obtain ⟨r, j, rfl⟩ : ∃ (r : Fin 128) (j : Fin 512), y = ix2 r j := ⟨y 0, y 1, by funext b; fin_cases b <;> rfl⟩
  rw [emb_oK]
  show flat f ((rC k).emb (ix2 r j)) = _
  rw [emb_rC]
  rfl

/-- Storing chunk `k` of a staged block over the communication buffer leaves `flat` of that block on the chunk. -/
theorem stored_chunk (k : Fin 4) (g : CBuf F) (f : XBuf F) (h : S1x128x512.ShapeCasts S128x512) (i : S512x512.Idx) (hi : i ∈ cSet k) :
    ((cM : Memref sig .tc .vmem S512x512 .bf16).access (rC k)).write (Elt F) g
      (shapeCast S128x512 (((xM : Memref sig .tc .vmem S1x512x512 .bf16).access (rX k)).read (Elt F) f) h) Finset.univ i = flat f i := by
  rw [← set_cK] at hi
  obtain ⟨y, -, rfl⟩ := Finset.mem_map.mp hi
  obtain ⟨r, j, rfl⟩ : ∃ (r : Fin 128) (j : Fin 512), y = ix2 r j := ⟨y 0, y 1, by funext b; fin_cases b <;> rfl⟩
  refine (View.write_emb_of_mem (v := (cM : Memref sig .tc .vmem S512x512 .bf16).access (rC k)) _ _ (Finset.mem_univ (ix2 r j))).trans ?_
  show shapeCast S128x512 (((xM : Memref sig .tc .vmem S1x512x512 .bf16).access (rX k)).read (Elt F) f) h (ix2 r j) = flat f ((rC k).emb (ix2 r j))
  rw [shapeCast_1ab_ab_apply, emb_rC]
  show f ((rX k).emb (ix3 0 r j)) = _
  rw [emb_rX]
  rfl

/-! ## A whole buffer and its four chunks -/

/-- A staging buffer of device `c` on its row chunk `k`. -/
def oPts (c : Dev nD) (k : Fin 4) (f : XBuf F) : sProp 𝕄 :=
  (oK k).view.loc (c : Thread nD τ) ↦[(oK k).view.set]{fullShare} f
/-- The communication buffer of device `c` on its row chunk `k`. -/
def cPts (c : Dev nD) (k : Fin 4) (f : CBuf F) : sProp 𝕄 :=
  (cK k).view.loc (c : Thread nD τ) ↦[(cK k).view.set]{fullShare} f

instance oPts_storable (c : Dev nD) (k) (f) : BI.Storable (upEmb : UEmb _ 𝕄) (oPts (F := F) c k f) := by unfold oPts; infer_instance
instance cPts_storable (c : Dev nD) (k) (f) : BI.Storable (upEmb : UEmb _ 𝕄) (cPts (F := F) c k f) := by unfold cPts; infer_instance

theorem oPts_eq (c : Dev nD) (k : Fin 4) (f : XBuf F) :
    (oPts c k f : sProp 𝕄) = (((c : Thread nD τ).loc cc0_stg2_0) ↦[oSet k]{fullShare} f) := by
  unfold oPts; rw [set_oK]
theorem oPts_congr (c : Dev nD) (k : Fin 4) {f g : XBuf F} (h : ∀ i ∈ oSet k, f i = g i) : oPts c k f = oPts c k g := by
  unfold oPts; exact pointsTo_congr fun i hi => h i (by rw [set_oK] at hi; exact hi)
theorem cPts_eq (c : Dev nD) (k : Fin 4) (f : CBuf F) :
    (cPts c k f : sProp 𝕄) = (((c : Thread nD τ).loc cc0_scratch0) ↦[cSet k]{fullShare} f) := by
  unfold cPts; rw [set_cK]
theorem cPts_congr (c : Dev nD) (k : Fin 4) {f g : CBuf F} (h : ∀ i ∈ cSet k, f i = g i) : cPts c k f = cPts c k g := by
  unfold cPts; exact pointsTo_congr fun i hi => h i (by rw [set_cK] at hi; exact hi)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A staging buffer held whole is its four chunks. -/
theorem o_split (c : Dev nD) (f : XBuf F) :
    (((c : Thread nD τ).loc cc0_stg2_0) ↦{fullShare} f : sProp 𝕄) = iprop(oPts c 0 f ∗ oPts c 1 f ∗ oPts c 2 f ∗ oPts c 3 f) := by
  rw [← bigSep_four fun k => oPts c k f]
  rw [bigSep_congr (s := Finset.univ) fun k _ => oPts_eq c k f]
  exact Ring.pointsTo_blocks (ℓ := (c : Thread nD τ).loc cc0_stg2_0) oSet oSet_disj (Finset.eq_univ_iff_forall.mpr fun i => Finset.mem_biUnion.mpr (oSet_at i)) f

/-- The communication buffer held whole is its four chunks. -/
theorem c_split (c : Dev nD) (f : CBuf F) :
    (((c : Thread nD τ).loc cc0_scratch0) ↦{fullShare} f : sProp 𝕄) = iprop(cPts c 0 f ∗ cPts c 1 f ∗ cPts c 2 f ∗ cPts c 3 f) := by
  rw [← bigSep_four fun k => cPts c k f]
  rw [bigSep_congr (s := Finset.univ) fun k _ => cPts_eq c k f]
  exact Ring.pointsTo_blocks (ℓ := (c : Thread nD τ).loc cc0_scratch0) cSet cSet_disj (Finset.eq_univ_iff_forall.mpr fun i => Finset.mem_biUnion.mpr (cSet_at i)) f

end Cert.Route

end
-- ==== Proof.Schedule.lean ====
/-
The exchange as a schedule of rounds: which cell is paid by whom, by how much, and what a payment hands over; what every
device owes at launch; and the levels by which no wait closes a cycle.

Device `c` sends its block to `σ c` and receives the block of `σ.symm c`. It signals the barrier of `σ c` (payment
`false`, handing over nothing) and the barrier of `σ.symm c` (payment `true`, handing over its own result staging buffer,
in which the block of `σ.symm c` is to land). Its four transfers each pay one receive cell of `σ c` with a landed chunk
and one send cell of its own with the chunk of the communication buffer that was read. It acknowledges to `σ.symm c`.
-/
module

public import proofs.«01_k».proof.Proof.Cells

@[expose] public section

noncomputable section

namespace Cert.Route

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Dev nD))

/-! ## The semaphores -/

/-- The barrier semaphore. -/
abbrev barS : Sem sig := (SemArray.scalar (sig.barrier 0 rfl) : Sems sig S_).sem
/-- The acknowledgement semaphore. -/
abbrev ackS : Sem sig := (cc0_scratch3 : Sems sig S_).sem
theorem ack_ne_bar : (ackS : Sem sig) ≠ barS := by decide
/-- The send semaphore of chunk `k`. -/
def sndQ (k : Fin 4) : DmaSem sig := ⟨3 + k.val, by revert k; decide⟩
/-- The receive semaphore of chunk `k`. -/
def rcvQ (k : Fin 4) : DmaSem sig := ⟨7 + k.val, by revert k; decide⟩

abbrev barCell (c : Dev nD) : GSem nD τ sig := ((c : Thread nD τ), .reg barS)
abbrev ackCell (c : Dev nD) : GSem nD τ sig := ((c : Thread nD τ), .reg ackS)
abbrev sndCell (k : Fin 4) (c : Dev nD) : GSem nD τ sig := ((c : Thread nD τ), .dma (sndQ k))
abbrev rcvCell (k : Fin 4) (c : Dev nD) : GSem nD τ sig := ((c : Thread nD τ), .dma (rcvQ k))

theorem snd0 : ((cc0_scratch1.slice (Rect.unit (s := S4) ![0] S1.size inb_S4_S1_0)).squeeze S_ squeezes_S1_S_).sem = sndQ 0 := rfl
theorem snd1 : ((cc0_scratch1.slice (Rect.unit (s := S4) ![1] S1.size inb_S4_S1_1)).squeeze S_ squeezes_S1_S_).sem = sndQ 1 := rfl
theorem snd2 : ((cc0_scratch1.slice (Rect.unit (s := S4) ![2] S1.size inb_S4_S1_2)).squeeze S_ squeezes_S1_S_).sem = sndQ 2 := rfl
theorem snd3 : ((cc0_scratch1.slice (Rect.unit (s := S4) ![3] S1.size inb_S4_S1_3)).squeeze S_ squeezes_S1_S_).sem = sndQ 3 := rfl
theorem rcv0 : ((cc0_scratch2.slice (Rect.unit (s := S4) ![0] S1.size inb_S4_S1_0)).squeeze S_ squeezes_S1_S_).sem = rcvQ 0 := rfl
theorem rcv1 : ((cc0_scratch2.slice (Rect.unit (s := S4) ![1] S1.size inb_S4_S1_1)).squeeze S_ squeezes_S1_S_).sem = rcvQ 1 := rfl
theorem rcv2 : ((cc0_scratch2.slice (Rect.unit (s := S4) ![2] S1.size inb_S4_S1_2)).squeeze S_ squeezes_S1_S_).sem = rcvQ 2 := rfl
theorem rcv3 : ((cc0_scratch2.slice (Rect.unit (s := S4) ![3] S1.size inb_S4_S1_3)).squeeze S_ squeezes_S1_S_).sem = rcvQ 3 := rfl

/-! ## Contents -/

/-- The table device `c` stages. -/
def tstg (c : Dev nD) : (cc0_stg0_0 : Ref sig .tc).ty.Contents (Elt F) :=
  (win0_0.blk (0 : Fin 1)).view.read (Elt F) (m ((c : Thread nD τ).loc main_arg1))
/-- The `x` block device `c` stages. -/
def xstg (c : Dev nD) : XBuf F :=
  (win0_1.blk (0 : Fin 1)).view.read (Elt F) (m ((c : Thread nD τ).loc main_arg0))

/-! ## The schedule -/

/-- The chunk a transfer semaphore serves. -/
def chunkOf (q : DmaSem sig) : Fin 4 := ⟨(q.val + 1) % 4, Nat.mod_lt _ (by decide)⟩
theorem chunkOf_snd (k : Fin 4) : chunkOf (sndQ k) = k := by revert k; decide
theorem chunkOf_rcv (k : Fin 4) : chunkOf (rcvQ k) = k := by revert k; decide
theorem snd_val (k : Fin 4) : (sndQ k).val = 3 + k.val := rfl
theorem rcv_val (k : Fin 4) : (rcvQ k).val = 7 + k.val := rfl

/-- What the barrier of `c` hands over: the result staging buffer of `σ c`, chunk by chunk, each with the fact that the
    receive cell of that chunk has reached its round. -/
def barPay (c : Dev nD) : sProp 𝕄 :=
  iprop(((∃ f, oPts (σ c) 0 f) ∗ reached ER (rcvCell 0 (σ c)) 0) ∗ ((∃ f, oPts (σ c) 1 f) ∗ reached ER (rcvCell 1 (σ c)) 0)
    ∗ ((∃ f, oPts (σ c) 2 f) ∗ reached ER (rcvCell 2 (σ c)) 0) ∗ ((∃ f, oPts (σ c) 3 f) ∗ reached ER (rcvCell 3 (σ c)) 0))

/-- What a transfer's semaphore hands over: the chunk landed, or the chunk that was read. -/
def xferPay (c : Dev nD) (q : DmaSem sig) : sProp 𝕄 :=
  if 7 ≤ q.val then oPts c (chunkOf q) (xstg m (σ.symm c)) else cPts c (chunkOf q) (flat (xstg m c))

/-- What a payment to a regular semaphore hands over: the barrier's `true` payment the landing buffer, any other nothing. -/
def regPay (c : Dev nD) (s : Sem sig) (d : Bool) : sProp 𝕄 := if s = barS ∧ d = true then barPay σ c else iprop(emp)

/-- The payments a semaphore gets: two for the barrier, one for the acknowledgement and for each transfer semaphore. -/
def dutyS : SemLoc sig → Finset Bool
  | .reg s => if s = barS then Finset.univ else {false}
  | .dma q => if 3 ≤ q.val then {false} else ∅
theorem dutyS_bar : dutyS (.reg barS) = Finset.univ := by unfold dutyS; exact if_pos rfl
theorem dutyS_ack : dutyS (.reg ackS) = {false} := by unfold dutyS; exact if_neg ack_ne_bar
theorem dutyS_dma (q : DmaSem sig) (hq : 3 ≤ q.val) : dutyS (.dma q) = {false} := by unfold dutyS; exact if_pos hq

/-- The exchange's rounds: each cell has the one round `0`. -/
def exch : Rounds.Schedule (GSem nD τ sig) Bool 𝕄 where
  duties g r := if r = 0 ∧ g.1.2 = .tc then dutyS g.2 else ∅
  unitless _ := False
  amount g _ _ := match g.2 with
    | .reg _ => 1
    | .dma _ => N
  payload g _ d := match g.2 with
    | .reg s => regPay σ g.1.1 s d
    | .dma q => xferPay m σ g.1.1 q
  amount_pos g _ _ _ := by
    rcases g with ⟨t, s | q⟩
    · exact Nat.one_pos
    · exact N_pos

instance exch_payload_storable (g : GSem nD τ sig) (r : ℕ) (d : Bool) :
    BI.Storable (upEmb : UEmb _ 𝕄) ((exch (F := F) m σ).payload g r d) := by
  rcases g with ⟨t, s | q⟩
  · show BI.Storable upEmb (regPay σ t.1 s d)
    unfold regPay barPay
    split <;> infer_instance
  · show BI.Storable upEmb (xferPay m σ t.1 q)
    unfold xferPay
    split <;> infer_instance

section Tables
variable (c : Dev nD) (k : Fin 4)

theorem duties_zero (sm : SemLoc sig) : (exch (F := F) m σ).duties ((c : Thread nD τ), sm) 0 = dutyS sm := by
  dsimp only [exch]; rw [if_pos ⟨rfl, rfl⟩]
theorem duties_bar : (exch (F := F) m σ).duties (barCell c) 0 = Finset.univ := (duties_zero m σ c _).trans dutyS_bar
theorem duties_ack : (exch (F := F) m σ).duties (ackCell c) 0 = {false} := (duties_zero m σ c _).trans dutyS_ack
theorem duties_xfer (q : DmaSem sig) (hq : 3 ≤ q.val) : (exch (F := F) m σ).duties ((c : Thread nD τ), .dma q) 0 = {false} :=
  (duties_zero m σ c _).trans (dutyS_dma q hq)
theorem duties_later (g : GSem nD τ sig) : ∀ r, 1 ≤ r → (exch (F := F) m σ).duties g r = ∅ :=
  fun r hr => if_neg fun h => by omega

theorem amount_reg (s : Sem sig) (d : Bool) : (exch (F := F) m σ).amount ((c : Thread nD τ), .reg s) 0 d = 1 := rfl
theorem amount_dma (q : DmaSem sig) (d : Bool) : (exch (F := F) m σ).amount ((c : Thread nD τ), .dma q) 0 d = N := rfl

theorem expect_bar : (exch (F := F) m σ).expect (barCell c) 0 = 2 := by
  unfold Schedule.expect Schedule.amountOf
  rw [duties_bar, Finset.sum_congr rfl fun d _ => amount_reg m σ c barS d, Finset.sum_const, Finset.card_univ, Fintype.card_bool, smul_eq_mul]
theorem expect_ack : (exch (F := F) m σ).expect (ackCell c) 0 = 1 := by
  unfold Schedule.expect Schedule.amountOf; rw [duties_ack, Finset.sum_singleton, amount_reg]
theorem expect_xfer (q : DmaSem sig) (hq : 3 ≤ q.val) : (exch (F := F) m σ).expect ((c : Thread nD τ), .dma q) 0 = N := by
  unfold Schedule.expect Schedule.amountOf; rw [duties_xfer m σ c q hq, Finset.sum_singleton, amount_dma]

theorem payload_bar_true : (exch (F := F) m σ).payload (barCell c) 0 true = barPay σ c := by
  show regPay σ c barS true = _
  unfold regPay; rw [if_pos ⟨rfl, rfl⟩]
theorem payload_bar_false : (exch (F := F) m σ).payload (barCell c) 0 false = iprop(emp) := by
  show regPay σ c barS false = _
  unfold regPay; rw [if_neg fun h => Bool.false_ne_true h.2]
theorem payload_ack (d : Bool) : (exch (F := F) m σ).payload (ackCell c) 0 d = iprop(emp) := by
  show regPay σ c ackS d = _
  unfold regPay; rw [if_neg fun h => ack_ne_bar h.1]
theorem payload_snd (d : Bool) : (exch (F := F) m σ).payload (sndCell k c) 0 d = cPts c k (flat (xstg m c)) := by
  show xferPay m σ c (sndQ k) = _
  unfold xferPay
  rw [if_neg (by rw [snd_val]; omega), chunkOf_snd]
theorem payload_rcv (d : Bool) : (exch (F := F) m σ).payload (rcvCell k c) 0 d = oPts c k (xstg m (σ.symm c)) := by
  show xferPay m σ c (rcvQ k) = _
  unfold xferPay
  rw [if_pos (by rw [rcv_val]; omega), chunkOf_rcv]

theorem rest_bar : bigSep ((exch (F := F) m σ).duties (barCell c) 0 \ ∅) (fun d => (exch (F := F) m σ).payload (barCell c) 0 d)
    = iprop(emp ∗ barPay σ c) := by
  rw [Finset.sdiff_empty, duties_bar, bigSep_univ_eq_bigSepL [false, true] (by decide) (by decide), bigSepL_cons_cons, bigSepL_singleton,
    payload_bar_false, payload_bar_true]
  rfl
theorem rest_xfer (q : DmaSem sig) (hq : 3 ≤ q.val) :
    bigSep ((exch (F := F) m σ).duties ((c : Thread nD τ), .dma q) 0 \ ∅) (fun d => (exch (F := F) m σ).payload ((c : Thread nD τ), .dma q) 0 d)
      = (exch (F := F) m σ).payload ((c : Thread nD τ), .dma q) 0 false := by
  rw [Finset.sdiff_empty, duties_xfer m σ c q hq, bigSep_singleton]

end Tables

/-! ## What each device owes at launch -/

/-- After its last transfer: the acknowledgement. -/
def O₆ (c : Dev nD) : CellTallies nD τ sig Unit := tallyAt (ackCell (σ.symm c)) () 1
/-- After its third transfer. -/
def O₅ (c : Dev nD) : CellTallies nD τ sig Unit := O₆ σ c + tallyAt (rcvCell 3 (σ c)) () N
/-- After its second transfer. -/
def O₄ (c : Dev nD) : CellTallies nD τ sig Unit := O₅ σ c + tallyAt (rcvCell 2 (σ c)) () N
/-- After its first transfer. -/
def O₃ (c : Dev nD) : CellTallies nD τ sig Unit := O₄ σ c + tallyAt (rcvCell 1 (σ c)) () N
/-- After both its signals. -/
def O₂ (c : Dev nD) : CellTallies nD τ sig Unit := O₃ σ c + tallyAt (rcvCell 0 (σ c)) () N
/-- After its first signal. -/
def O₁ (c : Dev nD) : CellTallies nD τ sig Unit := O₂ σ c + tallyAt (barCell (σ.symm c)) () 1
/-- At launch. -/
def O₀ (c : Dev nD) : CellTallies nD τ sig Unit := O₁ σ c + tallyAt (barCell (σ c)) () 1

/-- What device `d` owes any cell at launch, spelt out. -/
theorem owed_apply (d : Dev nD) (g : GSem nD τ sig) : O₀ σ d g ()
    = ((((((if g = ackCell (σ.symm d) then 1 else 0) + (if g = rcvCell 3 (σ d) then N else 0)) + (if g = rcvCell 2 (σ d) then N else 0))
        + (if g = rcvCell 1 (σ d) then N else 0)) + (if g = rcvCell 0 (σ d) then N else 0)) + (if g = barCell (σ.symm d) then 1 else 0))
        + (if g = barCell (σ d) then 1 else 0) := by
  unfold O₀ O₁ O₂ O₃ O₄ O₅ O₆
  simp only [Pi.add_apply, Finsupp.add_apply, tallyAt_apply, and_true]

/-! ## The levels -/

/-- Every cell of a core has the one index. -/
def L (g : GSem nD τ sig) : Finset Unit := if g.1.2 = .tc then {()} else ∅
/-- The level of a semaphore: barrier `1`, receives `2`, acknowledgement `3`, everything else `0`. -/
def lvS : SemLoc sig → ℕ
  | .reg s => if s = barS then 1 else 3
  | .dma q => if 7 ≤ q.val then 2 else 0
/-- The level of a cell is its semaphore's. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv lvS; exact if_pos rfl
theorem lv_ack (c : Dev nD) : lv (ackCell c) () = 3 := by unfold lv lvS; exact if_neg ack_ne_bar
theorem lv_rcv (k : Fin 4) (c : Dev nD) : lv (rcvCell k c) () = 2 := if_pos (by rw [rcv_val]; omega)

/-- A positive tally is one of its summands'. -/
theorem tally_pos {O : CellTallies nD τ sig Unit} {a : GSem nD τ sig} {n : ℕ} {g : GSem nD τ sig} {u : Unit}
    (h : 0 < (O + tallyAt a () n) g u) : 0 < O g u ∨ g = a := by
  rw [Pi.add_apply, Finsupp.add_apply, tallyAt_apply] at h
  by_contra hn; rw [not_or] at hn
  rw [if_neg (fun h' => hn.2 h'.1)] at h
  exact hn.1 h

/-- A cell that is a core's, of level at least `n`. -/
def AtLeast (n : ℕ) (g : GSem nD τ sig) : Prop := g.1.2 = .tc ∧ n ≤ lv g ()

theorem O₆_pos {c : Dev nD} {g : GSem nD τ sig} {u : Unit} (h : 0 < O₆ σ c g u) : AtLeast 3 g := by
  unfold O₆ at h
  rw [tallyAt_apply] at h
  by_cases h' : g = ackCell (σ.symm c)
  · subst h'; exact ⟨rfl, (lv_ack _).ge⟩
  · rw [if_neg (fun h'' => h' h''.1)] at h; exact absurd h (Nat.lt_irrefl 0)
theorem O₂_pos {c : Dev nD} {g : GSem nD τ sig} {u : Unit} (h : 0 < O₂ σ c g u) : AtLeast 2 g := by
  unfold O₂ O₃ O₄ O₅ at h
  rcases tally_pos h with h | rfl
  · rcases tally_pos h with h | rfl
    · rcases tally_pos h with h | rfl
      · rcases tally_pos h with h | rfl
        · exact ⟨(O₆_pos σ h).1, (by decide : 2 ≤ 3).trans (O₆_pos σ h).2⟩
        · exact ⟨rfl, (lv_rcv _ _).ge⟩
      · exact ⟨rfl, (lv_rcv _ _).ge⟩
    · exact ⟨rfl, (lv_rcv _ _).ge⟩
  · exact ⟨rfl, (lv_rcv _ _).ge⟩
theorem O₀_pos {c : Dev nD} {g : GSem nD τ sig} {u : Unit} (h : 0 < O₀ σ c g u) : AtLeast 1 g := by
  unfold O₀ O₁ at h
  rcases tally_pos h with h | rfl
  · rcases tally_pos h with h | rfl
    · exact ⟨(O₂_pos σ h).1, (by decide : 1 ≤ 2).trans (O₂_pos σ h).2⟩
    · exact ⟨rfl, (lv_bar _).ge⟩
  · exact ⟨rfl, (lv_bar _).ge⟩

/-- A wait below every cell owed closes no cycle. -/
theorem mayWait_below (c : Dev nD) (sm : SemLoc sig) (O : CellTallies nD τ sig Unit) (n : ℕ) (hn : lvS sm ≤ n)
    (hO : ∀ g u, 0 < O g u → AtLeast (n + 1) g) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show u ∈ L g; unfold L; rw [if_pos (hO g u hg).1]; exact Finset.mem_singleton_self _)
    (fun p hp => by rw [Finset.mem_singleton.mp hp]; exact hn)
    (fun g u hg => (hO g u hg).2)

/-- A staging wait, at launch or at the end. -/
theorem mayWait_stage (c : Dev nD) (q : DmaSem sig) (hq : q.val < 7) (O : CellTallies nD τ sig Unit) (hO : O = O₀ σ c ∨ O = 0) :
    (levAts L lv : sProp 𝕄) ⊢ MayWait (c : Thread nD τ) (.dma q) () O := by
  rcases hO with rfl | rfl
  · exact mayWait_below c _ _ 0 (by show (if 7 ≤ q.val then 2 else 0) ≤ 0; rw [if_neg (by omega)]) fun g u h => O₀_pos σ h
  · rw [MayWait_zero]; iintro -; iempintro
/-- The barrier's wait, four transfers and the acknowledgement owed. -/
theorem mayWait_bar (c : Dev nD) : (levAts L lv : sProp 𝕄) ⊢ MayWait (c : Thread nD τ) (.reg barS) () (O₂ σ c) :=
  mayWait_below c _ _ 1 (lv_bar c).le fun g u h => O₂_pos σ h
/-- A receive wait, the acknowledgement owed. -/
theorem mayWait_rcv (c : Dev nD) (k : Fin 4) : (levAts L lv : sProp 𝕄) ⊢ MayWait (c : Thread nD τ) (.dma (rcvQ k)) () (O₆ σ c) :=
  mayWait_below c _ _ 2 (lv_rcv k c).le fun g u h => O₆_pos σ h

end Cert.Route

end
-- ==== Proof.Search.lean ====
/-
The routing table as a device reads it: word `c` names the device to send to, and the search of the table for `c` finds
the device to receive from.
-/
module

public import proofs.«01_k».proof.Proof.Schedule

@[expose] public section

noncomputable section

namespace Cert.Route

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (σ : Equiv.Perm (Dev nD))

abbrev 𝒱₀ : Variants := Variants.none

/-! ## Words and devices -/

/-- The word that names device `c`. -/
abbrev devWord (c : Dev nD) : BitVec 32 := BitVec.ofNat 32 c.val

theorem devWord_toNat (c : Dev nD) : (devWord c).toNat = c.val := by
  rw [BitVec.toNat_ofNat]; exact Nat.mod_eq_of_lt (Nat.lt_trans c.isLt (by decide))
theorem devWord_inj {c d : Dev nD} (h : devWord c = devWord d) : c = d := by
  have := congrArg BitVec.toNat h; rw [devWord_toNat, devWord_toNat] at this; exact Fin.ext this

/-- Every device's table holds the permutation `σ`: its word `j` names the device `σ j`. -/
def Routed : Prop := ∀ c j : Dev nD, (m ((c : Thread nD τ).loc main_arg1) : IVec S32 32) (ix1 j) = devWord (σ j)

/-- The device's own name, as the body computes it. -/
theorem own_word (c : Dev nD) : Scalar.remsi (Scalar.divsi (Dev.word c) 1#32) 32#32 = devWord c := by
  revert c; decide

/-- A word that names a device passes the body's first side condition, -/
theorem chk1_dev (d : Dev nD) : k0_chk1 (devWord d) := by
  have h : (devWord d).toNat < nD := by rw [devWord_toNat]; exact d.isLt
  exact ⟨h, h, h, h, h⟩
/-- and its second. -/
theorem chk2_dev (d : Dev nD) : k0_chk2 (devWord d) := by
  have h : (devWord d).toNat < nD := by rw [devWord_toNat]; exact d.isLt
  exact ⟨h, h⟩

/-! ## The loads from the table -/

/-- The word of a table that a one-word rectangle names. -/
abbrev wordAt (r : Rect S32) (h : r.shape.numel = 1) (ts : (cc0_stg0_0 : Ref sig .tc).ty.Contents (Elt F)) : BitVec 32 :=
  ((Memref.whole cc0_stg0_0).access r : View sig .tc _ _ _).read (Elt F) ts (Shape.Idx.first (h.symm ▸ Nat.one_pos))

abbrev rOwn (c : Dev nD) : Rect S32 := Rect.unit (s := S32) (k0_off1 c) S1.size (k0_off1_inb c)
abbrev rTrip (k : Fin k0_t1_loop.trips) : Rect S32 := Rect.unit (s := S32) (k0_off2 k) S1.size (k0_off2_inb k)

theorem trips_eq : k0_t1_loop.trips = 32 := by decide
/-- The trip `k` of the search, as the device it asks about. -/
def tripDev (k : Fin k0_t1_loop.trips) : Dev nD := ⟨k.val, Nat.lt_of_lt_of_le k.isLt k0_t1_abs.2.1⟩

theorem iv_trip (k : Fin k0_t1_loop.trips) : Scf.iv 0#32 1#32 k.val = devWord (tripDev k) := by
  simp only [Scf.iv, BitVec.zero_add, BitVec.mul_one]; rfl

theorem off1_val (c : Dev nD) : k0_off1 c 0 = c.val := by revert c; decide
theorem off2_val (k : Fin k0_t1_loop.trips) : k0_off2 k 0 = (tripDev k).val := by
  show (Scf.iv 0#32 1#32 k.val).toNat = _
  rw [iv_trip, devWord_toNat]

/-- The word at offset `j` of a device's staged table is word `j` of its table. -/
theorem wordAt_tstg (c j : Dev nD) (off : Fin 1 → Nat) (hin : ∀ a, off a + S1.size a ≤ S32.size a) (h0 : off 0 = j.val) :
    wordAt (Rect.unit (s := S32) off S1.size hin) numel1_S1 (tstg m c) = (m ((c : Thread nD τ).loc main_arg1) : IVec S32 32) (ix1 j) := by
  show m ((c : Thread nD τ).loc main_arg1) _ = _
  refine congrArg _ (funext fun a => Fin.ext ?_)
  fin_cases a
  have hf : ((Shape.Idx.first (s := S1) (numel1_S1.symm ▸ Nat.one_pos)) 0).val = 0 := by decide
  show 0 + 1 * (off 0 + 1 * ((Shape.Idx.first (s := S1) (numel1_S1.symm ▸ Nat.one_pos)) 0).val) = j.val
  rw [hf, h0]; omega

variable {m σ} in
/-- The device's own word names where it sends to. -/
theorem Routed.own (h : Routed m σ) (c : Dev nD) : wordAt (rOwn c) numel1_S1 (tstg m c) = devWord (σ c) :=
  (wordAt_tstg m c c _ _ (off1_val c)).trans (h c c)
variable {m σ} in
/-- The word of trip `k` names where device `k` sends to. -/
theorem Routed.trip (h : Routed m σ) (c : Dev nD) (k : Fin k0_t1_loop.trips) :
    wordAt (rTrip k) numel1_S1 (tstg m c) = devWord (σ (tripDev k)) :=
  (wordAt_tstg m c (tripDev k) _ _ (off2_val k)).trans (h c (tripDev k))

/-! ## The search -/

/-- The table as one device holds it in scalar memory. -/
abbrev tblPts (c : Dev nD) : sProp 𝕄 := ((c : Thread nD τ).loc cc0_stg0_0 ↦{fullShare} (tstg m c))

/-- Before trip `k` the search has found the device that sends to `c`, if that device comes before `k`. -/
def foundBy (c : Dev nD) (k : ℕ) (acc : BitVec 32) : Prop := (σ.symm c).val < k → acc = devWord (σ.symm c)

/-- One trip: the answer is the trip's device if its word names `c`, else what it was. -/
theorem foundBy_step (c : Dev nD) (k : Fin k0_t1_loop.trips) (acc w : BitVec 32) (hw : w = devWord (σ (tripDev k)))
    (hacc : foundBy σ c k.val acc) :
    foundBy σ c (k.val + 1) (Scalar.select (Scalar.cmpi .eq w (devWord c)) (Scf.iv 0#32 1#32 k.val) acc) := by
  intro hlt
  subst hw
  by_cases hk : σ (tripDev k) = c
  · have hs : tripDev k = σ.symm c := by rw [← hk, Equiv.symm_apply_apply]
    rw [hk, iv_trip, hs]
    simp [Scalar.select, Scalar.cmpi, IntOp.cmpi]
  · have hne : devWord (σ (tripDev k)) ≠ devWord c := fun h => hk (devWord_inj h)
    have hnk : (σ.symm c).val ≠ k.val := fun h => hk (by
      have : tripDev k = σ.symm c := Fin.ext h.symm
      rw [this, Equiv.apply_symm_apply])
    rw [← hacc (by omega)]
    have hb : (devWord (σ (tripDev k)) == devWord c) = false := beq_eq_false_iff_ne.mpr hne
    simp only [Scalar.select, Scalar.cmpi, IntOp.cmpi, hb]
    exact if_neg (by decide)

variable {m σ} in
/-- The search's loop: from the staged table, its answer names the device that sends to `c`. -/
theorem wp_search (h : Routed m σ) (c : Dev nD) (w2 : BitVec 32) (hw2 : w2 = devWord c)
    {α : Type} {Q : α → sProp 𝕄} {kk : BitVec 32 → Prog (TpuEff nD τ sig (Elt F) Λ₀ .tc) α}
    (a1 : Memref sig .tc .vmem S1x512x512 .bf16) (h1 : a1.IsWhole) (a2 : Memref sig .tc .vmem S1x512x512 .bf16) (h2 : a2.IsWhole)
    (a3 : Memref sig .tc .vmem S512x512 .bf16) (h3 : a3.IsWhole) (a4 a5 : DmaSems sig S4) (a6 : Sems sig S_) :
    tblPts m c
      ⊢ iprop((∀ acc, (⌜acc = devWord (σ.symm c)⌝ ∗ tblPts m c) -∗ wp frame (wpE (defs₀ (F := F)) 𝒱₀ (c : Thread nD τ) none) Set.univ (kk acc) Q)
          -∗ wp frame (wpE (defs₀ (F := F)) 𝒱₀ (c : Thread nD τ) none) Set.univ
              (Scf.Loop.for k0_t1_loop k0_t1_ok 0#32 (k0_t1_body (F := F) tM (Memref.isWhole_whole _) a1 h1 a2 h2 a3 h3 a4 a5 a6 w2) >>= kk) Q) := by
  subst hw2
  iintro Ht Hk
  iapply (Scf.wp_for_bind Idealize.ShloMosaic.frame (wpE (defs₀ (F := F)) 𝒱₀ (c : Thread nD τ) none) Set.univ _ _ _ k0_t1_ok 0#32
    (k0_t1_body (F := F) tM (Memref.isWhole_whole _) a1 h1 a2 h2 a3 h3 a4 a5 a6 (devWord c))
    (fun k acc => iprop(⌜foundBy σ c k acc⌝ ∗ tblPts m c)) ?_) $$ [Ht]
  · intro k acc
    iintro ⟨%hf, Ht⟩
    unfold k0_t1_body
    simp only [smemLoad, smemLoadElt, Prog.lift, Prog.bind_op, Prog.bind_ret, Prog.pure_eq_ret, Prog.bind_assoc]
    iapply (wp_load_rect 𝒱₀ (c : Thread nD τ) none Set.univ (m := tM) (r := rTrip k) (Finset.subset_univ _)) $$ Ht; iintro Ht
    rw [wp_ret]; imodintro
    isplitr
    · ipureintro; exact foundBy_step σ c k acc _ (h.trip c k) hf
    · iexact Ht
  · isplitr
    · ipureintro; intro hlt; exact absurd hlt (Nat.not_lt_zero _)
    · iexact Ht
  · iintro %acc ⟨%hf, Ht⟩
    iapply Hk
    isplitr
    · ipureintro; exact hf (by rw [show Scf.trips _ _ _ = 32 from trips_eq]; exact (σ.symm c).isLt)
    · iexact Ht

end Cert.Route

end
-- ==== Proof.Steps.lean ====
/-
One rule per kind of step the body takes: the load and the store of a chunk, a transfer of a chunk, the wait for one,
the signals and the waits on the two counters. Each is stated once, over a symbolic device and a symbolic chunk.
-/
module

public import proofs.«01_k».proof.Proof.Search

@[expose] public section

noncomputable section

namespace Cert.Route

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (σ : Equiv.Perm (Dev nD))

/-! ## The cells of a device, numbered -/

/-- The semaphores of the exchange: the barrier, the acknowledgement, four sends, four receives. -/
def csem : Fin 10 → SemLoc sig :=
  ![.reg barS, .reg ackS, .dma (sndQ 0), .dma (sndQ 1), .dma (sndQ 2), .dma (sndQ 3), .dma (rcvQ 0), .dma (rcvQ 1), .dma (rcvQ 2), .dma (rcvQ 3)]
/-- Cell `i` of a device. -/
abbrev kcell (ci : Dev nD × Fin 10) : GSem nD τ sig := ((ci.1 : Thread nD τ), csem ci.2)
/-- The number of chunk `k`'s send cell, -/
abbrev sndI (k : Fin 4) : Fin 10 := ⟨2 + k.val, by omega⟩
/-- and of its receive cell. -/
abbrev rcvI (k : Fin 4) : Fin 10 := ⟨6 + k.val, by omega⟩
theorem csem_snd (k : Fin 4) : csem (sndI k) = .dma (sndQ k) := by fin_cases k <;> rfl
theorem csem_rcv (k : Fin 4) : csem (rcvI k) = .dma (rcvQ k) := by fin_cases k <;> rfl

/-- The shared records: every cell's invariant, and that every cell has reached its round. -/
def records (K : Dev nD × Fin 10 → ℕ) : sProp 𝕄 :=
  iprop((bigSep Finset.univ fun ci : Dev nD × Fin 10 => cellInv ER (exch m σ) (K ci) (kcell ci))
    ∗ bigSep Finset.univ fun ci : Dev nD × Fin 10 => reached ER (kcell ci) 0)

instance records_persistent (K : Dev nD × Fin 10 → ℕ) : BI.Persistent (records m σ K) := by unfold records; infer_instance

section Records
variable (K : Dev nD × Fin 10 → ℕ) (c : Dev nD) (k : Fin 4)

theorem inv_of (ci : Dev nD × Fin 10) : records m σ K ⊢ cellInv ER (exch m σ) (K ci) (kcell ci) := by
  have h : (bigSep Finset.univ fun ci : Dev nD × Fin 10 => (cellInv ER (exch m σ) (K ci) (kcell ci) : sProp 𝕄)) ⊢ cellInv ER (exch m σ) (K ci) (kcell ci) :=
    bigSep_elim (Finset.mem_univ ci)
  unfold records
  iintro ⟨HI, -⟩
  iapply h; iexact HI
theorem reached_of (ci : Dev nD × Fin 10) : records m σ K ⊢ reached ER (kcell ci) 0 := by
  have h : (bigSep Finset.univ fun ci : Dev nD × Fin 10 => (reached ER (kcell ci) 0 : sProp 𝕄)) ⊢ reached ER (kcell ci) 0 :=
    bigSep_elim (Finset.mem_univ ci)
  unfold records
  iintro ⟨-, HR⟩
  iapply h; iexact HR

theorem inv_bar : records m σ K ⊢ cellInv ER (exch m σ) (K (c, 0)) (barCell c) := inv_of m σ K (c, 0)
theorem inv_ack : records m σ K ⊢ cellInv ER (exch m σ) (K (c, 1)) (ackCell c) := inv_of m σ K (c, 1)
theorem inv_snd : records m σ K ⊢ cellInv ER (exch m σ) (K (c, sndI k)) (sndCell k c) := by
  have h := inv_of m σ K (c, sndI k)
  unfold kcell at h; rw [csem_snd] at h; exact h
theorem inv_rcv : records m σ K ⊢ cellInv ER (exch m σ) (K (c, rcvI k)) (rcvCell k c) := by
  have h := inv_of m σ K (c, rcvI k)
  unfold kcell at h; rw [csem_rcv] at h; exact h
theorem reached_bar : records m σ K ⊢ reached ER (barCell c) 0 := reached_of m σ K (c, 0)
theorem reached_ack : records m σ K ⊢ reached ER (ackCell c) 0 := reached_of m σ K (c, 1)
theorem reached_snd : records m σ K ⊢ reached ER (sndCell k c) 0 := by
  have h := reached_of m σ K (c, sndI k)
  unfold kcell at h; rw [csem_snd] at h; exact h
theorem reached_rcv : records m σ K ⊢ reached ER (rcvCell k c) 0 := by
  have h := reached_of m σ K (c, rcvI k)
  unfold kcell at h; rw [csem_rcv] at h; exact h

end Records

/-! ## Loads and stores -/

section Steps
variable (K : Dev nD × Fin 10 → ℕ) (c : Dev nD) (k : Fin 4)

/-- The staged block of a device, as it holds it. -/
abbrev xPts : sProp 𝕄 := ((c : Thread nD τ).loc cc0_stg1_0 ↦{fullShare} (xstg m c))

theorem pay1_eq (v : Vec F S1x128x512 .bf16) : k0_pay1 v = shapeCast S128x512 v shapeCasts_S1x128x512_S128x512 := shapeCast_self _ _
theorem pay3_eq (v : Vec F S1x128x512 .bf16) : k0_pay3 (k0_pay2 v) = shapeCast S128x512 v shapeCasts_S1x128x512_S128x512 := shapeCast_self _ _
theorem pay4_eq (v : Vec F S1x128x512 .bf16) : k0_pay4 v = shapeCast S128x512 v shapeCasts_S1x128x512_S128x512 := shapeCast_self _ _
theorem pay5_eq (v : Vec F S1x128x512 .bf16) : k0_pay5 v = shapeCast S128x512 v shapeCasts_S1x128x512_S128x512 := shapeCast_self _ _

/-- The load of a chunk of the communication buffer, whose value the body drops. -/
theorem wp_peek (g : CBuf F) {hl : (cM : Memref sig .tc .vmem S512x512 .bf16).view.LoadsAt (rC k)}
    {α : Type} {Q : α → sProp 𝕄} {kk : Vec F S128x512 .bf16 → Prog (TpuEff nD τ sig (Elt F) Λ₀ .tc) α} :
    cPts c k g ⊢ iprop((cPts c k g -∗ wp frame (wpE (defs₀ (F := F)) 𝒱₀ (c : Thread nD τ) none) Set.univ
            (kk (((cM : Memref sig .tc .vmem S512x512 .bf16).access (rC k)).read (Elt F) g)) Q)
        -∗ wp frame (wpE (defs₀ (F := F)) 𝒱₀ (c : Thread nD τ) none) Set.univ (.op (.load cM (rC k).toLoadRect hl) kk) Q) := by
  unfold cPts
  exact wp_load_rect 𝒱₀ (c : Thread nD τ) none Set.univ (m := cM) (r := rC k) (Finset.Subset.refl _)

/-- The store of chunk `k` of the staged block to the communication buffer. -/
theorem wp_narrow (g : CBuf F) (pay : Vec F S128x512 .bf16)
    (hp : pay = shapeCast S128x512 (((xM : Memref sig .tc .vmem S1x512x512 .bf16).access (rX k)).read (Elt F) (xstg m c)) shapeCasts_S1x128x512_S128x512)
    {hx : ((cM : Memref sig .tc .vmem S512x512 .bf16).access (rC k)).Stores Finset.univ}
    {hm : (Finset.univ : Finset (rC k).shape.Idx) = Finset.univ ∨ ∀ a, (rC k).stride a = 1}
    {α : Type} {Q : α → sProp 𝕄} {kk : PUnit → Prog (TpuEff nD τ sig (Elt F) Λ₀ .tc) α} :
    cPts c k g ⊢ iprop((cPts c k (flat (xstg m c)) -∗ wp frame (wpE (defs₀ (F := F)) 𝒱₀ (c : Thread nD τ) none) Set.univ (kk ⟨⟩) Q)
        -∗ wp frame (wpE (defs₀ (F := F)) 𝒱₀ (c : Thread nD τ) none) Set.univ (.op (.store cM (rC k) pay Finset.univ hx hm) kk) Q) := by
  subst hp
  rw [← cPts_congr c k (fun i hi => stored_chunk k g (xstg m c) shapeCasts_S1x128x512_S128x512 i hi)]
  unfold cPts
  exact wp_store 𝒱₀ (c : Thread nD τ) none Set.univ (m := cM) (r := rC k) (Mk := Finset.univ) (by rw [View.setOn_univ])

/-! ## Transfers and waits -/

/-- The transfer of chunk `k` to `n = σ c`, whose landing chunk the device holds. -/
theorem wp_send (n : Dev nD) (hn : n = σ c) {hsc : (oK k : Memref sig (Dev.tc n : Thread nD τ).2.kind .vmem S128x512 .bf16).view.ref.isScScratch = false}
    {hsrc : (cK k).view.WordExact} {hdst : (oK k).view.WordExact}
    {hsem : DmaTarget.Typed .vmem (.dma (rcvQ k)) (.remote (Dev.tc n : Thread nD τ) (oK k) (.dma (sndQ k)) hsc)}
    {α : Type} {Q : α → sProp 𝕄} {kk : PUnit → Prog (TpuEff nD τ sig (Elt F) Λ₀ .tc) α} (fn : XBuf F) (O O' : CellTallies nD τ sig Unit)
    (hO : O' = O + tallyAt (rcvCell k (σ c)) () N) (W : Waits sig Unit) :
    iprop(records m σ K ∗ cPts c k (flat (xstg m c)) ∗ oPts (σ c) k fn ∗ owes (c : Thread nD τ) O' W
        ∗ dutyTok ER (sndCell k c) 0 false ∗ dutyTok ER (rcvCell k (σ c)) 0 false)
      ⊢ iprop(((cred (tallyAt (sndCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cK k) (.remote (Dev.tc n : Thread nD τ) (oK k) (.dma (sndQ k)) hsc) (.dma (rcvQ k)) hsrc hdst hsem) kk) Q) := by
  subst hn
  refine BI.Entails.trans ?_ (Rounds.wp_send_pointsTo 𝒱₀ ER (exch m σ) (c : Thread nD τ) none (κ₁ := K (c, sndI k)) (κ₂ := K (σ c, rcvI k))
    (r₁ := 0) (r₂ := 0) (d₁ := false) (d₂ := false) (fs := flat (xstg m c)) (fd := fn)
    (by rw [duties_xfer m σ c (sndQ k) (by rw [snd_val]; omega)]; exact Finset.mem_singleton_self _)
    (by rw [duties_xfer m σ (σ c) (rcvQ k) (by rw [rcv_val]; omega)]; exact Finset.mem_singleton_self _)
    () () N rfl (amount_dma m σ c (sndQ k) false) (amount_dma m σ (σ c) (rcvQ k) false) O hO (W := W)
    (by rw [payload_snd]; exact BI.Entails.refl _)
    (by
      rw [payload_rcv, Equiv.symm_apply_apply, ← oPts_congr (σ c) k (fun i hi => landed_chunk k fn (xstg m c) i hi)]
      exact BI.Entails.refl _))
  show (_ : sProp 𝕄) ⊢ _
  iintro ⟨#HR, Hc, Ho, HO, HtS, HtV⟩
  isplitr; · iapply (inv_snd m σ K c k); iexact HR
  isplitr; · iapply (inv_rcv m σ K (σ c) k); iexact HR
  isplitl [Hc]; · unfold cPts; iexact Hc
  isplitl [Ho]; · unfold oPts; iexact Ho
  isplitl [HO]; · iexact HO
  isplitl [HtS]; · iexact HtS
  isplitr; · iapply (reached_snd m σ K c k); iexact HR
  isplitl [HtV]; · iexact HtV
  iapply (reached_rcv m σ K (σ c) k); iexact HR

/-- A wait on one of the eight transfer semaphores, owing `O`: the cell's payment comes with it. -/
theorem wp_await (q : DmaSem sig) (hq : 3 ≤ q.val) (κ : ℕ) (O : CellTallies nD τ sig Unit) (W : Waits sig Unit)
    {s t : Shape} {e : EltTy} {src : Memref sig .tc .vmem s e} {dst : Memref sig .tc .vmem t e} {hsrc : src.view.WordExact} {hdst : dst.view.WordExact} (hN : dst.view.dmaCredit = N)
    {α : Type} {Q : α → sProp 𝕄} {kk : PUnit → Prog (TpuEff nD τ sig (Elt F) Λ₀ .tc) α} :
    iprop(cellInv ER (exch m σ) κ ((c : Thread nD τ), .dma q) ∗ cred (tallyAt ((c : Thread nD τ), SemLoc.dma q) () N) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ atPos ER ((c : Thread nD τ), .dma q) (0 + 1) ∅ 0
            ∗ (exch (F := F) m σ).payload ((c : Thread nD τ), .dma q) 0 false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  iintro ⟨#HI, Hc, HO, HM, Hat⟩ Hk
  iapply (Rounds.wp_wait_rest_token 𝒱₀ ER (exch m σ) (c : Thread nD τ) none (κ := κ)
      (wpE_waitDma2_eq 𝒱₀ (c : Thread nD τ) none Set.univ) (Set.mem_univ _) () (O := O) (W := W) (R := 0) (m := 0) (T := ∅)
      (by rw [Nat.zero_add, hN, expect_xfer m σ c q hq])) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_xfer m σ c q hq)); iexact Hpay

/-- The wait for chunk `k` to land, the acknowledgement owed: the chunk comes with it, at its sender's contents. -/
theorem wp_await_rcv (W : Waits sig Unit)
    {s t : Shape} {e : EltTy} {src : Memref sig .tc .vmem s e} {dst : Memref sig .tc .vmem t e} {hsrc : src.view.WordExact} {hdst : dst.view.WordExact} (hN : dst.view.dmaCredit = N)
    {α : Type} {Q : α → sProp 𝕄} {kk : PUnit → Prog (TpuEff nD τ sig (Elt F) Λ₀ .tc) α} :
    iprop(records m σ K ∗ levAts L lv ∗ cred (tallyAt (rcvCell k c) () N) ∗ owes (c : Thread nD τ) (O₆ σ c) W ∗ atPos ER (rcvCell k c) 0 ∅ 0)
      ⊢ iprop(((owes (c : Thread nD τ) (O₆ σ c) (insert (SemLoc.dma (rcvQ k), ()) W) ∗ atPos ER (rcvCell k c) (0 + 1) ∅ 0
            ∗ oPts c k (xstg m (σ.symm c))) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rcvQ k) src dst hsrc hdst) kk) Q) := by
  iintro ⟨#HR, #Hlev, Hc, HO, Hat⟩ Hk
  iapply (wp_await m σ c (rcvQ k) (by rw [rcv_val]; omega) (K (c, rcvI k)) (O₆ σ c) W (src := src) (dst := dst) hN) $$ [Hc HO Hat]
  · isplitr; · iapply (inv_rcv m σ K c k); iexact HR
    isplitl [Hc]; · iexact Hc
    isplitl [HO]; · iexact HO
    isplitr; · iapply (mayWait_rcv σ c k); iexact Hlev
    iexact Hat
  iintro ⟨HO, Hat, Hpay⟩
  iapply Hk
  isplitl [HO]; · iexact HO
  isplitl [Hat]; · iexact Hat
  iapply (Entails.of_eq (payload_rcv m σ c k false)); iexact Hpay

/-- The wait for chunk `k` to have been read, owing nothing: the chunk of the communication buffer comes back. -/
theorem wp_await_snd (W : Waits sig Unit)
    {s t : Shape} {e : EltTy} {src : Memref sig .tc .vmem s e} {dst : Memref sig .tc .vmem t e} {hsrc : src.view.WordExact} {hdst : dst.view.WordExact} (hN : dst.view.dmaCredit = N)
    {α : Type} {Q : α → sProp 𝕄} {kk : PUnit → Prog (TpuEff nD τ sig (Elt F) Λ₀ .tc) α} :
    iprop(records m σ K ∗ cred (tallyAt (sndCell k c) () N) ∗ owes (c : Thread nD τ) 0 W ∗ atPos ER (sndCell k c) 0 ∅ 0)
      ⊢ iprop(((owes (c : Thread nD τ) 0 (insert (SemLoc.dma (sndQ k), ()) W) ∗ atPos ER (sndCell k c) (0 + 1) ∅ 0
            ∗ cPts c k (flat (xstg m c))) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sndQ k) src dst hsrc hdst) kk) Q) := by
  iintro ⟨#HR, Hc, HO, Hat⟩ Hk
  iapply (wp_await m σ c (sndQ k) (by rw [snd_val]; omega) (K (c, sndI k)) 0 W (src := src) (dst := dst) hN) $$ [Hc HO Hat]
  · isplitr; · iapply (inv_snd m σ K c k); iexact HR
    isplitl [Hc]; · iexact Hc
    isplitl [HO]; · iexact HO
    isplitr; · rw [MayWait_zero]; iempintro
    iexact Hat
  iintro ⟨HO, Hat, Hpay⟩
  iapply Hk
  isplitl [HO]; · iexact HO
  isplitl [Hat]; · iexact Hat
  iapply (Entails.of_eq (payload_snd m σ c k false)); iexact Hpay

end Steps

end Cert.Route

end
-- ==== Proof.Body.lean ====
/-
The body at a symbolic device, from its share of the start to the result block landed and the protocol finished.
-/
module

public import proofs.«01_k».proof.Proof.Steps

@[expose] public section

noncomputable section

namespace Cert.Route

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Dev nD))

/-! ## What a device holds -/

/-- The positions of a device's own ten cells. -/
def atAll (c : Dev nD) : sProp 𝕄 :=
  iprop(atPos ER (barCell c) 0 ∅ 0 ∗ atPos ER (ackCell c) 0 ∅ 0
    ∗ (atPos ER (sndCell 0 c) 0 ∅ 0 ∗ atPos ER (sndCell 1 c) 0 ∅ 0 ∗ atPos ER (sndCell 2 c) 0 ∅ 0 ∗ atPos ER (sndCell 3 c) 0 ∅ 0)
    ∗ (atPos ER (rcvCell 0 c) 0 ∅ 0 ∗ atPos ER (rcvCell 1 c) 0 ∅ 0 ∗ atPos ER (rcvCell 2 c) 0 ∅ 0 ∗ atPos ER (rcvCell 3 c) 0 ∅ 0))

/-- The tokens of the payments a device makes. -/
def payToks (c : Dev nD) : sProp 𝕄 :=
  iprop(dutyTok ER (barCell (σ c)) 0 false ∗ dutyTok ER (barCell (σ.symm c)) 0 true ∗ dutyTok ER (ackCell (σ.symm c)) 0 false
    ∗ (dutyTok ER (sndCell 0 c) 0 false ∗ dutyTok ER (sndCell 1 c) 0 false ∗ dutyTok ER (sndCell 2 c) 0 false ∗ dutyTok ER (sndCell 3 c) 0 false)
    ∗ (dutyTok ER (rcvCell 0 (σ c)) 0 false ∗ dutyTok ER (rcvCell 1 (σ c)) 0 false ∗ dutyTok ER (rcvCell 2 (σ c)) 0 false ∗ dutyTok ER (rcvCell 3 (σ c)) 0 false))

/-- The credits a device waits with, besides those of its own transfers' reads. -/
def creds (c : Dev nD) : sProp 𝕄 :=
  iprop(cred (tallyAt (barCell c) () 2) ∗ cred (tallyAt (ackCell c) () 1)
    ∗ (cred (tallyAt (rcvCell 0 c) () N) ∗ cred (tallyAt (rcvCell 1 c) () N) ∗ cred (tallyAt (rcvCell 2 c) () N) ∗ cred (tallyAt (rcvCell 3 c) () N)))

/-- The shared records with a device's own positions and tokens. -/
def ghost (K : Dev nD × Fin 10 → ℕ) (c : Dev nD) : sProp 𝕄 := iprop(records m σ K ∗ atAll c ∗ payToks σ c)

/-- What a device starts with. -/
def start (c : Dev nD) : sProp 𝕄 := iprop((∃ K, ghost m σ K c) ∗ creds c ∗ levAts L lv)

/-- The device's ten counters at zero. -/
def zeros (c : Dev nD) : sProp 𝕄 :=
  iprop(semVal (barCell c) 0 ∗ semVal (ackCell c) 0
    ∗ (semVal (sndCell 0 c) 0 ∗ semVal (sndCell 1 c) 0 ∗ semVal (sndCell 2 c) 0 ∗ semVal (sndCell 3 c) 0)
    ∗ (semVal (rcvCell 0 c) 0 ∗ semVal (rcvCell 1 c) 0 ∗ semVal (rcvCell 2 c) 0 ∗ semVal (rcvCell 3 c) 0))

/-- Before the body: the start, and the communication buffer at any contents. -/
def Φ₀ (c : Dev nD) : sProp 𝕄 := iprop(start m σ c ∗ ∃ f : CBuf F, ((c : Thread nD τ).loc cc0_scratch0) ↦{fullShare} f)
/-- After it: the communication buffer holds the device's own block, and the counters are zero. -/
def Φ₁ (c : Dev nD) : sProp 𝕄 := iprop((((c : Thread nD τ).loc cc0_scratch0) ↦{fullShare} flat (xstg m c)) ∗ zeros c)

/-- The run's data: the staged buffers' contents after the body, and what is held and owed before and after it. -/
def dats (_ : Fin 1) (c : Dev nD) : Dat τ (Elt F) Unit ℕ UU ℕ cfg0 c where
  A w := m ((cfg0.win w).arr.view.loc (c : Thread nD τ))
  after w _ := match w with
    | ⟨0, _⟩ => tstg m c
    | ⟨1, _⟩ => xstg m c
    | ⟨2, _⟩ => xstg m (σ.symm c)
  Φ t := match t with
    | ⟨0, _⟩ => Φ₀ m σ c
    | ⟨_ + 1, _⟩ => Φ₁ m c
  q _ := fullShare
  owed t := match t with
    | ⟨0, _⟩ => O₀ σ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ
theorem cfg0_N : cfg0.N = 1 := by decide
/-- The one grid point. -/
def t₀ : Fin cfg0.N := ⟨0, by rw [cfg0_N]; decide⟩
theorem fin_N (t : Fin cfg0.N) : t = t₀ := by obtain ⟨t, ht⟩ := t; have := cfg0_N; exact Fin.ext (by simp only [t₀]; omega)
theorem fetch_0 : (cfg0.win (0 : Fin 3)).fetch t₀ = true := by rfl
theorem fetch_1 : (cfg0.win (1 : Fin 3)).fetch t₀ = true := by rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staged buffer of a device at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body, the records' names chosen. -/
def bodyPre (K : Dev nD × Fin 10 → ℕ) (c : Dev nD) : sProp 𝕄 :=
  iprop((ghost m σ K c ∗ creds c ∗ levAts L lv ∗ ∃ f : CBuf F, ((c : Thread nD τ).loc cc0_scratch0) ↦{fullShare} f)
    ∗ (dats m σ 0 c).owesAt () t₀.castSucc
    ∗ (∃ d, staged c cc0_stg0_0 ((dats m σ 0 c).before (0 : Fin 3) t₀ d))
    ∗ (∃ d, staged c cc0_stg1_0 ((dats m σ 0 c).before (1 : Fin 3) t₀ d))
    ∗ (∃ d, staged c cc0_stg2_0 ((dats m σ 0 c).before (2 : Fin 3) t₀ d)))

/-- After it. -/
def bodyPost (c : Dev nD) : sProp 𝕄 :=
  iprop(Φ₁ m c ∗ (dats m σ 0 c).owesAt () t₀.succ
    ∗ staged c cc0_stg0_0 (tstg m c) ∗ staged c cc0_stg1_0 (xstg m c) ∗ staged c cc0_stg2_0 (xstg m (σ.symm c)))

theorem dev1_eq (d : Dev nD) (hl : k0_dev1 (devWord d) < nD) : (⟨k0_dev1 (devWord d), hl⟩ : Dev nD) = d := Fin.ext (devWord_toNat d)
theorem dev2_eq (d : Dev nD) (hl : k0_dev2 (devWord d) < nD) : (⟨k0_dev2 (devWord d), hl⟩ : Dev nD) = d := Fin.ext (devWord_toNat d)
theorem dev3_eq (d : Dev nD) (hl : k0_dev3 (devWord d) < nD) : (⟨k0_dev3 (devWord d), hl⟩ : Dev nD) = d := Fin.ext (devWord_toNat d)
theorem dev4_eq (d : Dev nD) (hl : k0_dev4 (devWord d) < nD) : (⟨k0_dev4 (devWord d), hl⟩ : Dev nD) = d := Fin.ext (devWord_toNat d)
theorem dev5_eq (d : Dev nD) (hl : k0_dev5 (devWord d) < nD) : (⟨k0_dev5 (devWord d), hl⟩ : Dev nD) = d := Fin.ext (devWord_toNat d)
theorem dev6_eq (d : Dev nD) (hl : k0_dev6 (devWord d) < nD) : (⟨k0_dev6 (devWord d), hl⟩ : Dev nD) = d := Fin.ext (devWord_toNat d)
theorem dev7_eq (d : Dev nD) (hl : k0_dev7 (devWord d) < nD) : (⟨k0_dev7 (devWord d), hl⟩ : Dev nD) = d := Fin.ext (devWord_toNat d)

section Closing
variable (K : Dev nD × Fin 10 → ℕ) (c : Dev nD)

/-- A cell past its round gives its counter back at zero. -/
theorem close_cell (ci : Dev nD × Fin 10) (g : GSem nD τ sig) (hg : g = kcell ci) :
    iprop(records m σ K ∗ atPos ER g (0 + 1) ∅ 0) ⊢ iprop(|={Set.univ}=> semVal g 0) := by
  subst hg
  iintro ⟨#HR, Hat⟩
  iapply (Rounds.cell_close ER (exch m σ) (Set.mem_univ (K ci)) (fun h => h) (R := 0 + 1) (duties_later m σ (kcell ci)))
  isplitr; · iapply (inv_of m σ K ci); iexact HR
  iexact Hat

end Closing

set_option maxHeartbeats 6400000 in
set_option maxRecDepth 65536 in
/-- The body runs from `bodyPre` to `bodyPost`, whatever the device. -/
theorem sound_body (h : Routed m σ) (K : Dev nD × Fin 10 → ℕ) (c : Dev nD) (Kt : PUnit → sProp 𝕄) :
    iprop(bodyPre m σ K c ∗ (bodyPost m σ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, smemLoad, smemLoadElt, Prog.lift, Prog.bind_op, Prog.bind_ret, Prog.pure_eq_ret, Prog.bind_assoc, wp_deviceId]
  unfold bodyPre ghost atAll payToks creds
  iintro ⟨⟨⟨⟨#HR, ⟨HaB, HaA, ⟨HaS0, HaS1, HaS2, HaS3⟩, HaV0, HaV1, HaV2, HaV3⟩, HtB, HtB', HtA, ⟨HtS0, HtS1, HtS2, HtS3⟩, HtV0, HtV1, HtV2, HtV3⟩,
      ⟨HcB, HcA, HcV0, HcV1, HcV2, HcV3⟩, #Hlev, %fc, Hc⟩, Ho, ⟨%d0, %g0, %hg0, Ht⟩, ⟨%d1, %g1, %hg1, Hx⟩, ⟨%d2, %g2, %hg2, Hout⟩⟩, Hk⟩
  have ht : g0 = tstg m c := by rw [hg0]; unfold Dat.before; rw [if_pos fetch_0]; rfl
  subst ht
  have hx : g1 = xstg m c := by rw [hg1]; unfold Dat.before; rw [if_pos fetch_1]; rfl
  subst hx
  unfold Dat.owesAt Pipeline.owesWithin
  icases Ho with ⟨%W, %hW, HO⟩
  rw [show (dats m σ 0 c).owed t₀.castSucc = O₀ σ c from rfl]
  -- the buffers in chunks
  ihave Hc4 := (Entails.of_eq (c_split c fc)) $$ Hc
  icases Hc4 with ⟨Hc0, Hc1, Hc2, Hc3⟩
  ihave Ho4 := (Entails.of_eq (o_split c g2)) $$ Hout
  icases Ho4 with ⟨Ho0, Ho1, Ho2, Ho3⟩
  -- the table: the device's own word
  iapply (wp_load_rect 𝒱₀ (c : Thread nD τ) none Set.univ (m := tM) (r := rOwn c) (Finset.subset_univ _)) $$ Ht; iintro Ht
  have hv : ((Memref.whole cc0_stg0_0).access (rOwn c) : View sig .tc _ _ _).read (Elt F) (tstg m c) (Shape.Idx.first (numel1_S1.symm ▸ Nat.one_pos)) = devWord (σ c) := h.own c
  generalize ((Memref.whole cc0_stg0_0).access (rOwn c) : View sig .tc _ _ _).read (Elt F) (tstg m c) (Shape.Idx.first (numel1_S1.symm ▸ Nat.one_pos)) = v4 at hv ⊢
  subst hv
  rw [wp_assume_of _ _ _ _ (d := k0_chk1.dec _) (chk1_dev (σ c))]
  iapply (wp_search h c _ (own_word c) _ _ _ _ _ _ _ _ _) $$ Ht
  iintro %acc ⟨%hacc, Ht⟩
  subst hacc
  rw [wp_assume_of _ _ _ _ (d := k0_chk2.dec _) (chk2_dev (σ.symm c))]
  -- chunk 0 into the communication buffer
  iapply (wp_load_rect 𝒱₀ (c : Thread nD τ) none Set.univ (m := xM) (r := rX 0) (Finset.subset_univ _)) $$ Hx; iintro Hx
  iapply (wp_peek c 0 fc) $$ Hc0; iintro Hc0
  iapply (wp_narrow m c 0 fc _ (pay1_eq _)) $$ Hc0; iintro Hc0
  -- the two signals: ready to the device it sends to, the staging buffer of the result to the device that sends to it
  simp only [dev1_eq, dev2_eq, dev7_eq]
  unfold O₀
  iapply (Rounds.wp_signal 𝒱₀ ER (exch m σ) (c : Thread nD τ) none (dst := (σ c : Thread nD τ)) (κ := K (σ c, 0))
      (d := false) (by rw [duties_bar]; exact Finset.mem_univ _) ((amount_reg m σ (σ c) barS false).trans (by decide)) () (O₁ σ c) rfl) $$ [HO HtB]
  · isplitr; · iapply (inv_bar m σ K (σ c)); iexact HR
    isplitl [HO]; · iexact HO
    isplitl [HtB]; · iexact HtB
    isplitr; · rw [payload_bar_false]; iempintro
    iapply (reached_bar m σ K (σ c)); iexact HR
  iintro HO
  unfold O₁
  iapply (Rounds.wp_signal 𝒱₀ ER (exch m σ) (c : Thread nD τ) none (dst := (σ.symm c : Thread nD τ)) (κ := K (σ.symm c, 0))
      (d := true) (by rw [duties_bar]; exact Finset.mem_univ _) ((amount_reg m σ (σ.symm c) barS true).trans (by decide)) () (O₂ σ c) rfl)
    $$ [HO HtB' Ho0 Ho1 Ho2 Ho3]
  · isplitr; · iapply (inv_bar m σ K (σ.symm c)); iexact HR
    isplitl [HO]; · iexact HO
    isplitl [HtB']; · iexact HtB'
    isplitl [Ho0 Ho1 Ho2 Ho3]
    · rw [payload_bar_true]; unfold barPay; rw [Equiv.apply_symm_apply]
      isplitl [Ho0]
      · isplitl [Ho0]; · iexists g2; iexact Ho0
        iapply (reached_rcv m σ K c 0); iexact HR
      isplitl [Ho1]
      · isplitl [Ho1]; · iexists g2; iexact Ho1
        iapply (reached_rcv m σ K c 1); iexact HR
      isplitl [Ho2]
      · isplitl [Ho2]; · iexists g2; iexact Ho2
        iapply (reached_rcv m σ K c 2); iexact HR
      isplitl [Ho3]; · iexists g2; iexact Ho3
      iapply (reached_rcv m σ K c 3); iexact HR
    iapply (reached_bar m σ K (σ.symm c)); iexact HR
  iintro HO
  -- the barrier: the landing buffer of the device it sends to comes with it
  iapply (Rounds.wp_wait_rest_token 𝒱₀ ER (exch m σ) (c : Thread nD τ) none (κ := K (c, 0))
      (wpE_semWait_eq 𝒱₀ (c : Thread nD τ) none Set.univ) (Set.mem_univ _) () (O := O₂ σ c) (W := W) (R := 0) (m := 0) (T := ∅)
      (by rw [expect_bar]; decide)) $$ [HcB HO HaB]
  · isplitr; · iapply (inv_bar m σ K c); iexact HR
    isplitl [HcB]; · iexact HcB
    isplitl [HO]; · iexact HO
    isplitr; · iapply (mayWait_bar σ c); iexact Hlev
    iexact HaB
  iintro ⟨HO, HaB, -, Hpay⟩
  ihave Hp2 := (Entails.of_eq (rest_bar m σ c)) $$ Hpay
  unfold barPay
  icases Hp2 with ⟨-, ⟨⟨%fd0, Hd0⟩, -⟩, ⟨⟨%fd1, Hd1⟩, -⟩, ⟨⟨%fd2, Hd2⟩, -⟩, ⟨%fd3, Hd3⟩, -⟩
  -- the four transfers, the later chunks stored between them
  iapply (wp_send m σ K c 0 _ (dev3_eq (σ c) _) fd0 (O₃ σ c) (O₂ σ c) rfl _) $$ [Hc0 Hd0 HO HtS0 HtV0]
  · isplitr; · iexact HR
    isplitl [Hc0]; · iexact Hc0
    isplitl [Hd0]; · iexact Hd0
    isplitl [HO]; · iexact HO
    isplitl [HtS0] <;> iassumption
  iintro ⟨HcS0, HO⟩
  iapply (wp_load_rect 𝒱₀ (c : Thread nD τ) none Set.univ (m := xM) (r := rX 1) (Finset.subset_univ _)) $$ Hx; iintro Hx
  iapply (wp_peek c 1 fc) $$ Hc1; iintro Hc1
  iapply (wp_narrow m c 1 fc _ (pay3_eq _)) $$ Hc1; iintro Hc1
  iapply (wp_send m σ K c 1 _ (dev4_eq (σ c) _) fd1 (O₄ σ c) (O₃ σ c) rfl _) $$ [Hc1 Hd1 HO HtS1 HtV1]
  · isplitr; · iexact HR
    isplitl [Hc1]; · iexact Hc1
    isplitl [Hd1]; · iexact Hd1
    isplitl [HO]; · iexact HO
    isplitl [HtS1] <;> iassumption
  iintro ⟨HcS1, HO⟩
  iapply (wp_load_rect 𝒱₀ (c : Thread nD τ) none Set.univ (m := xM) (r := rX 2) (Finset.subset_univ _)) $$ Hx; iintro Hx
  iapply (wp_peek c 2 fc) $$ Hc2; iintro Hc2
  iapply (wp_narrow m c 2 fc _ (pay4_eq _)) $$ Hc2; iintro Hc2
  iapply (wp_send m σ K c 2 _ (dev5_eq (σ c) _) fd2 (O₅ σ c) (O₄ σ c) rfl _) $$ [Hc2 Hd2 HO HtS2 HtV2]
  · isplitr; · iexact HR
    isplitl [Hc2]; · iexact Hc2
    isplitl [Hd2]; · iexact Hd2
    isplitl [HO]; · iexact HO
    isplitl [HtS2] <;> iassumption
  iintro ⟨HcS2, HO⟩
  iapply (wp_load_rect 𝒱₀ (c : Thread nD τ) none Set.univ (m := xM) (r := rX 3) (Finset.subset_univ _)) $$ Hx; iintro Hx
  iapply (wp_peek c 3 fc) $$ Hc3; iintro Hc3
  iapply (wp_narrow m c 3 fc _ (pay5_eq _)) $$ Hc3; iintro Hc3
  iapply (wp_send m σ K c 3 _ (dev6_eq (σ c) _) fd3 (O₆ σ c) (O₅ σ c) rfl _) $$ [Hc3 Hd3 HO HtS3 HtV3]
  · isplitr; · iexact HR
    isplitl [Hc3]; · iexact Hc3
    isplitl [Hd3]; · iexact Hd3
    isplitl [HO]; · iexact HO
    isplitl [HtS3] <;> iassumption
  iintro ⟨HcS3, HO⟩
  -- the four chunks of the result
  iapply (wp_await_rcv m σ K c 0 _ (src := cK 0) (dst := oK 0) rfl) $$ [HcV0 HO HaV0]
  · isplitr; · iexact HR
    isplitr; · iexact Hlev
    isplitl [HcV0]; · iexact HcV0
    isplitl [HO] <;> iassumption
  iintro ⟨HO, HaV0, Ho0⟩
  iapply (wp_await_rcv m σ K c 1 _ (src := cK 1) (dst := oK 1) rfl) $$ [HcV1 HO HaV1]
  · isplitr; · iexact HR
    isplitr; · iexact Hlev
    isplitl [HcV1]; · iexact HcV1
    isplitl [HO] <;> iassumption
  iintro ⟨HO, HaV1, Ho1⟩
  iapply (wp_await_rcv m σ K c 2 _ (src := cK 2) (dst := oK 2) rfl) $$ [HcV2 HO HaV2]
  · isplitr; · iexact HR
    isplitr; · iexact Hlev
    isplitl [HcV2]; · iexact HcV2
    isplitl [HO] <;> iassumption
  iintro ⟨HO, HaV2, Ho2⟩
  iapply (wp_await_rcv m σ K c 3 _ (src := cK 3) (dst := oK 3) rfl) $$ [HcV3 HO HaV3]
  · isplitr; · iexact HR
    isplitr; · iexact Hlev
    isplitl [HcV3]; · iexact HcV3
    isplitl [HO] <;> iassumption
  iintro ⟨HO, HaV3, Ho3⟩
  ihave Hout := (Entails.of_eq (o_split c (xstg m (σ.symm c))).symm) $$ [Ho0 Ho1 Ho2 Ho3]
  · isplitl [Ho0]; · iexact Ho0
    isplitl [Ho1]; · iexact Ho1
    isplitl [Ho2] <;> iassumption
  -- the acknowledgement
  rw [show O₆ σ c = 0 + tallyAt (ackCell (σ.symm c)) () 1 from (zero_add _).symm]
  iapply (Rounds.wp_signal 𝒱₀ ER (exch m σ) (c : Thread nD τ) none (dst := (σ.symm c : Thread nD τ)) (κ := K (σ.symm c, 1))
      (d := false) (by rw [duties_ack]; exact Finset.mem_singleton_self _) ((amount_reg m σ (σ.symm c) ackS false).trans (by decide)) () 0 rfl) $$ [HO HtA]
  · isplitr; · iapply (inv_ack m σ K (σ.symm c)); iexact HR
    isplitl [HO]; · iexact HO
    isplitl [HtA]; · iexact HtA
    isplitr; · rw [payload_ack]; iempintro
    iapply (reached_ack m σ K (σ.symm c)); iexact HR
  iintro HO
  -- the four reads finished
  iapply (wp_await_snd m σ K c 0 _ (src := oK 0) (dst := cK 0) rfl) $$ [HcS0 HO HaS0]
  · isplitr; · iexact HR
    isplitl [HcS0]; · iexact HcS0
    isplitl [HO] <;> iassumption
  iintro ⟨HO, HaS0, Hc0⟩
  iapply (wp_await_snd m σ K c 1 _ (src := oK 1) (dst := cK 1) rfl) $$ [HcS1 HO HaS1]
  · isplitr; · iexact HR
    isplitl [HcS1]; · iexact HcS1
    isplitl [HO] <;> iassumption
  iintro ⟨HO, HaS1, Hc1⟩
  iapply (wp_await_snd m σ K c 2 _ (src := oK 2) (dst := cK 2) rfl) $$ [HcS2 HO HaS2]
  · isplitr; · iexact HR
    isplitl [HcS2]; · iexact HcS2
    isplitl [HO] <;> iassumption
  iintro ⟨HO, HaS2, Hc2⟩
  iapply (wp_await_snd m σ K c 3 _ (src := oK 3) (dst := cK 3) rfl) $$ [HcS3 HO HaS3]
  · isplitr; · iexact HR
    isplitl [HcS3]; · iexact HcS3
    isplitl [HO] <;> iassumption
  iintro ⟨HO, HaS3, Hc3⟩
  ihave Hc := (Entails.of_eq (c_split c (flat (xstg m c))).symm) $$ [Hc0 Hc1 Hc2 Hc3]
  · isplitl [Hc0]; · iexact Hc0
    isplitl [Hc1]; · iexact Hc1
    isplitl [Hc2] <;> iassumption
  -- the acknowledgement of the device it sent to
  iapply (Rounds.wp_wait_rest_token 𝒱₀ ER (exch m σ) (c : Thread nD τ) none (κ := K (c, 1))
      (wpE_semWait_eq 𝒱₀ (c : Thread nD τ) none Set.univ) (Set.mem_univ _) () (O := 0) (R := 0) (m := 0) (T := ∅)
      (by rw [expect_ack]; decide)) $$ [HcA HO HaA]
  · isplitr; · iapply (inv_ack m σ K c); iexact HR
    isplitl [HcA]; · iexact HcA
    isplitl [HO]; · iexact HO
    isplitr; · rw [MayWait_zero]; iempintro
    iexact HaA
  iintro ⟨HO, HaA, -, -⟩
  -- the ten cells close
  imod (close_cell m σ K (c, 0) (barCell c) rfl) $$ [HaB] with HzB
  · isplitr; · iexact HR
    iexact HaB
  imod (close_cell m σ K (c, 1) (ackCell c) rfl) $$ [HaA] with HzA
  · isplitr; · iexact HR
    iexact HaA
  imod (close_cell m σ K (c, sndI 0) (sndCell 0 c) rfl) $$ [HaS0] with HzS0
  · isplitr; · iexact HR
    iexact HaS0
  imod (close_cell m σ K (c, sndI 1) (sndCell 1 c) rfl) $$ [HaS1] with HzS1
  · isplitr; · iexact HR
    iexact HaS1
  imod (close_cell m σ K (c, sndI 2) (sndCell 2 c) rfl) $$ [HaS2] with HzS2
  · isplitr; · iexact HR
    iexact HaS2
  imod (close_cell m σ K (c, sndI 3) (sndCell 3 c) rfl) $$ [HaS3] with HzS3
  · isplitr; · iexact HR
    iexact HaS3
  imod (close_cell m σ K (c, rcvI 0) (rcvCell 0 c) rfl) $$ [HaV0] with HzV0
  · isplitr; · iexact HR
    iexact HaV0
  imod (close_cell m σ K (c, rcvI 1) (rcvCell 1 c) rfl) $$ [HaV1] with HzV1
  · isplitr; · iexact HR
    iexact HaV1
  imod (close_cell m σ K (c, rcvI 2) (rcvCell 2 c) rfl) $$ [HaV2] with HzV2
  · isplitr; · iexact HR
    iexact HaV2
  imod (close_cell m σ K (c, rcvI 3) (rcvCell 3 c) rfl) $$ [HaV3] with HzV3
  · isplitr; · iexact HR
    iexact HaV3
  rw [wp_ret]; imodintro
  iapply Hk
  unfold bodyPost Φ₁ zeros Dat.owesAt Pipeline.owesWithin
  rw [show (dats m σ 0 c).owed t₀.succ = 0 from rfl]
  isplitl [Hc HzB HzA HzS0 HzS1 HzS2 HzS3 HzV0 HzV1 HzV2 HzV3]
  · isplitl [Hc]; · iexact Hc
    isplitl [HzB]; · iexact HzB
    isplitl [HzA]; · iexact HzA
    isplitl [HzS0 HzS1 HzS2 HzS3]
    · isplitl [HzS0]; · iexact HzS0
      isplitl [HzS1]; · iexact HzS1
      isplitl [HzS2] <;> iassumption
    isplitl [HzV0]; · iexact HzV0
    isplitl [HzV1]; · iexact HzV1
    isplitl [HzV2] <;> iassumption
  isplitl [HO]
  · iexists _
    isplitr; rotate_left
    · iexact HO
    · ipureintro; exact fun _ _ => Or.inl trivial
  isplitl [Ht]
  · iexists _; isplitr; · (ipureintro; rfl)
    iexact Ht
  isplitl [Hx]
  · iexists _; isplitr; · (ipureintro; rfl)
    iexact Hx
  iexists _; isplitr; · (ipureintro; rfl)
  iexact Hout

/-- The body's obligation, as the launch asks for it. -/
theorem body_obligation (h : Routed m σ) (c : Dev nD) : BodyObligation (dats (F := F) m σ 0 c) (defs₀ (F := F)) 𝒱₀ () Set.univ := fun t => by
  rw [fin_N t]
  rw [bigSep_W, bigSep_W]
  simp only [owns_whole_eq]
  show iprop(Φ₀ m σ c ∗ (dats m σ 0 c).owesAt () t₀.castSucc
      ∗ (∃ d, staged c cc0_stg0_0 ((dats m σ 0 c).before (0 : Fin 3) t₀ d))
      ∗ (∃ d, staged c cc0_stg1_0 ((dats m σ 0 c).before (1 : Fin 3) t₀ d))
      ∗ (∃ d, staged c cc0_stg2_0 ((dats m σ 0 c).before (2 : Fin 3) t₀ d)))
    ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2 cc0_scratch3)
      (fun _ => bodyPost m σ c)
  unfold Φ₀ start
  iintro ⟨⟨⟨⟨%K, Hg⟩, Hcr, Hlev⟩, Hc⟩, Ho, Hrest⟩
  iapply (sound_body m σ h K c fun _ => bodyPost m σ c)
  unfold bodyPre
  isplitr []
  · isplitl [Hg Hcr Hlev Hc]
    · isplitl [Hg]; · iexact Hg
      isplitl [Hcr]; · iexact Hcr
      isplitl [Hlev] <;> iassumption
    isplitl [Ho] <;> iassumption
  · iintro H; iexact H

end Cert.Route

end
-- ==== Proof.Launch.lean ====
/-
The launch: the ten cells of every device funded and allocated, each payment's token dealt to the device that pays,
the credits counted; and from it the run of the whole program.
-/
module

public import proofs.«01_k».proof.Proof.Body
public import Idealize.ShloMosaic.Lib.Quiescent
public import Idealize.ShloMosaic.Lib.Pipeline.CollectiveSegs

@[expose] public section

noncomputable section

namespace Cert.Route

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

/-! ## Cells and tokens at launch -/

/-- The kernel's own semaphores: the acknowledgement, the sends, the receives. -/
abbrev osem : Fin 9 → SemLoc sig :=
  ![.reg ackS, .dma (sndQ 0), .dma (sndQ 1), .dma (sndQ 2), .dma (sndQ 3), .dma (rcvQ 0), .dma (rcvQ 1), .dma (rcvQ 2), .dma (rcvQ 3)]

theorem ownSemFacts : Pipeline.OwnSemFacts cfg0.spec osem := by decide
theorem share_eq (c : Dev nD) (w : Fin cfg0.W) : (dats m σ 0 c).share w = fullShare := by unfold Dat.share; split <;> rfl

theorem csem_injective : Function.Injective csem := by decide
theorem kcell_injective : Function.Injective (kcell : Dev nD × Fin 10 → GSem nD τ sig) := by
  rintro ⟨c, i⟩ ⟨c', i'⟩ h
  have h1 : c = c' := congrArg (fun g : GSem nD τ sig => g.1.1) h
  have h2 : i = i' := csem_injective (congrArg Prod.snd h)
  rw [h1, h2]

/-- Every cell of the exchange. -/
def allCells : Finset (GSem nD τ sig) := Finset.univ.map ⟨kcell, kcell_injective⟩

/-- The token `j` of a device's own cells: the `false` one of cell `j`, and last the barrier's `true` one. -/
abbrev tokOf (cj : Dev nD × Fin 11) : GSem nD τ sig × ℕ × Bool :=
  if h : cj.2.val < 10 then (kcell (cj.1, ⟨cj.2.val, h⟩), 0, false) else (barCell cj.1, 0, true)
theorem tokOf_injective : Function.Injective (tokOf : Dev nD × Fin 11 → GSem nD τ sig × ℕ × Bool) := by
  rintro ⟨c, j⟩ ⟨c', j'⟩ h
  unfold tokOf at h
  by_cases hj : j.val < 10 <;> by_cases hj' : j'.val < 10
  · rw [dif_pos hj, dif_pos hj'] at h
    have h1 := kcell_injective (congrArg Prod.fst h)
    have h2 : c = c' := congrArg Prod.fst h1
    have h3 : j.val = j'.val := congrArg (fun x : Dev nD × Fin 10 => x.2.val) h1
    rw [h2, Fin.ext h3]
  · rw [dif_pos hj, dif_neg hj'] at h
    exact absurd (congrArg (fun x : GSem nD τ sig × ℕ × Bool => x.2.2) h) Bool.false_ne_true
  · rw [dif_neg hj, dif_pos hj'] at h
    exact absurd (congrArg (fun x : GSem nD τ sig × ℕ × Bool => x.2.2) h).symm Bool.false_ne_true
  · rw [dif_neg hj, dif_neg hj'] at h
    have h1 : c = c' := congrArg (fun x : GSem nD τ sig × ℕ × Bool => x.1.1.1) h
    exact Prod.ext h1 (Fin.ext (show j.val = j'.val by omega))
/-- Every token of the exchange. -/
def allToks : Finset (GSem nD τ sig × ℕ × Bool) := Finset.univ.map ⟨tokOf, tokOf_injective⟩

/-- The launch element. -/
def u₀ : UU := (initOf (Pipeline.cells cfgs cellOf_inj) (Pipeline.launchToks cfgs cellOf_inj), initOf allCells allToks)

/-- The tokens of a device's own cells. -/
def toks (c : Dev nD) : sProp 𝕄 :=
  iprop(dutyTok ER (barCell c) 0 false ∗ dutyTok ER (barCell c) 0 true ∗ dutyTok ER (ackCell c) 0 false
    ∗ (dutyTok ER (sndCell 0 c) 0 false ∗ dutyTok ER (sndCell 1 c) 0 false ∗ dutyTok ER (sndCell 2 c) 0 false ∗ dutyTok ER (sndCell 3 c) 0 false)
    ∗ (dutyTok ER (rcvCell 0 c) 0 false ∗ dutyTok ER (rcvCell 1 c) 0 false ∗ dutyTok ER (rcvCell 2 c) 0 false ∗ dutyTok ER (rcvCell 3 c) 0 false))

/-- What the launch element deals a device. -/
def G (c : Dev nD) : sProp 𝕄 :=
  iprop((bigSep Finset.univ fun i : Fin 10 => roundState ER (exch m σ) (kcell (c, i)) 0)
    ∗ (bigSep Finset.univ fun i : Fin 10 => iprop(atPos ER (kcell (c, i)) 0 ∅ 0 ∗ reached ER (kcell (c, i)) 0)) ∗ toks c)

/-- What the global step makes of it. -/
def G' (c : Dev nD) : sProp 𝕄 := iprop(∃ K, ghost m σ K c)

theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The tokens of a device, numbered, are its tokens. -/
theorem toks_of (c : Dev nD) :
    (bigSep Finset.univ fun j : Fin 11 => (dutyTok ER (tokOf (c, j)).1 (tokOf (c, j)).2.1 (tokOf (c, j)).2.2 : sProp 𝕄)) ⊢ toks c := by
  rw [bigSep_eleven]
  show iprop(dutyTok ER (barCell c) 0 false ∗ dutyTok ER (ackCell c) 0 false
    ∗ dutyTok ER (sndCell 0 c) 0 false ∗ dutyTok ER (sndCell 1 c) 0 false ∗ dutyTok ER (sndCell 2 c) 0 false ∗ dutyTok ER (sndCell 3 c) 0 false
    ∗ dutyTok ER (rcvCell 0 c) 0 false ∗ dutyTok ER (rcvCell 1 c) 0 false ∗ dutyTok ER (rcvCell 2 c) 0 false ∗ dutyTok ER (rcvCell 3 c) 0 false
    ∗ dutyTok ER (barCell c) 0 true) ⊢ _
  unfold toks
  iintro ⟨HB, HA, S0, S1, S2, S3, V0, V1, V2, V3, HB'⟩
  isplitl [HB]; · iexact HB
  isplitl [HB']; · iexact HB'
  isplitl [HA]; · iexact HA
  isplitl [S0 S1 S2 S3]
  · isplitl [S0]; · iexact S0
    isplitl [S1]; · iexact S1
    isplitl [S2] <;> iassumption
  isplitl [V0]; · iexact V0
  isplitl [V1]; · iexact V1
  isplitl [V2] <;> iassumption

/-- The positions of a device, numbered, are its positions. -/
theorem at_of (c : Dev nD) : (bigSep Finset.univ fun i : Fin 10 => (atPos ER (kcell (c, i)) 0 ∅ 0 : sProp 𝕄)) ⊢ atAll c := by
  rw [bigSep_ten]
  show iprop(atPos ER (barCell c) 0 ∅ 0 ∗ atPos ER (ackCell c) 0 ∅ 0
    ∗ atPos ER (sndCell 0 c) 0 ∅ 0 ∗ atPos ER (sndCell 1 c) 0 ∅ 0 ∗ atPos ER (sndCell 2 c) 0 ∅ 0 ∗ atPos ER (sndCell 3 c) 0 ∅ 0
    ∗ atPos ER (rcvCell 0 c) 0 ∅ 0 ∗ atPos ER (rcvCell 1 c) 0 ∅ 0 ∗ atPos ER (rcvCell 2 c) 0 ∅ 0 ∗ atPos ER (rcvCell 3 c) 0 ∅ 0) ⊢ _
  unfold atAll
  iintro ⟨HB, HA, S0, S1, S2, S3, HV⟩
  isplitl [HB]; · iexact HB
  isplitl [HA]; · iexact HA
  isplitl [S0 S1 S2 S3]
  · isplitl [S0]; · iexact S0
    isplitl [S1]; · iexact S1
    isplitl [S2] <;> iassumption
  iexact HV

/-- The launch element funds every device's share. -/
theorem fund_all : BI.own (ER (initOf allCells allToks)) ⊢ (|==> bigSep Finset.univ (G m σ) : sProp 𝕄) := by
  have hX (Φ : GSem nD τ sig → sProp 𝕄) : bigSep allCells Φ = bigSep Finset.univ fun c : Dev nD => bigSep Finset.univ fun i : Fin 10 => Φ (kcell (c, i)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of c
  iintro HX
  imod (Rounds.fund ER (exch m σ) allCells allToks) $$ HX with ⟨Hst, Hr, Hat, Htok⟩
  imodintro
  ihave Hst' := (Entails.of_eq (hX fun g => roundState ER (exch m σ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step -/

/-- The kernel's own counters, one by one. -/
theorem ownSems0_eq (c : Dev nD) : (Pipeline.ownSems0 (Ix := Unit) (Name := ℕ) (U := UU) (Lvl := ℕ) (Val := Elt F) (τ := τ) osem c : sProp 𝕄)
    = iprop(semVal (ackCell c) 0 ∗ semVal (sndCell 0 c) 0 ∗ semVal (sndCell 1 c) 0 ∗ semVal (sndCell 2 c) 0 ∗ semVal (sndCell 3 c) 0
      ∗ semVal (rcvCell 0 c) 0 ∗ semVal (rcvCell 1 c) 0 ∗ semVal (rcvCell 2 c) 0 ∗ semVal (rcvCell 3 c) 0) := by
  rw [Pipeline.ownSems0_eq_of_list c osem [0, 1, 2, 3, 4, 5, 6, 7, 8] (by decide) (by decide)]; rfl
/-- The barrier's is the launch's one unscoped counter. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 10 => semVal (kcell (c, i)) 0 : sProp 𝕄) := by
  rw [ownSems0_eq, unscopedSems0_eq, bigSep_ten]
  iintro ⟨HO, HB⟩
  isplitl [HB]; · iexact HB
  iexact HO

/-- A device's counters and round states become its ten invariants. -/
theorem core_alloc (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((bigSep Finset.univ fun i => iprop(∃ κ : ℕ, cellInv ER (exch m σ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 10 => semVal (kcell (c, i)) 0) ∗ bigSep Finset.univ fun i : Fin 10 => roundState ER (exch m σ) (kcell (c, i)) 0)
      ⊢ (|={Set.univ}=> bigSep Finset.univ fun i => iprop(∃ κ : ℕ, cellInv ER (exch m σ) κ (kcell (c, i))) : sProp 𝕄) from by
        rw [← bigSep_sep']
        exact (bigSep_mono fun i _ => (Rounds.body_intro ER (exch m σ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- Each token goes to the device that pays with it: along `σ` or against it, or nowhere. -/
theorem toks_dealt : (bigSep Finset.univ fun c : Dev nD => (toks c : sProp 𝕄)) ⊢ bigSep Finset.univ fun c : Dev nD => payToks σ c := by
  unfold toks payToks
  simp only [bigSep_sep']
  rw [bigSep_univ_equiv σ (fun c : Dev nD => (dutyTok ER (barCell c) 0 false : sProp 𝕄)),
    bigSep_univ_equiv σ.symm (fun c : Dev nD => (dutyTok ER (barCell c) 0 true : sProp 𝕄)),
    bigSep_univ_equiv σ.symm (fun c : Dev nD => (dutyTok ER (ackCell c) 0 false : sProp 𝕄)),
    bigSep_univ_equiv σ (fun c : Dev nD => (dutyTok ER (rcvCell 0 c) 0 false : sProp 𝕄)),
    bigSep_univ_equiv σ (fun c : Dev nD => (dutyTok ER (rcvCell 1 c) 0 false : sProp 𝕄)),
    bigSep_univ_equiv σ (fun c : Dev nD => (dutyTok ER (rcvCell 2 c) 0 false : sProp 𝕄)),
    bigSep_univ_equiv σ (fun c : Dev nD => (dutyTok ER (rcvCell 3 c) 0 false : sProp 𝕄))]

/-- A persistent resource beside a product goes into every factor. -/
theorem share_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (exch m σ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m σ) := by
  rw [bigSep_sep', bigSep_sep', ← bigSep_univ_prod (fun ci : Dev nD × Fin 10 => iprop(∃ κ : ℕ, cellInv ER (exch m σ) κ (kcell ci))),
    bigSep_congr (s := Finset.univ) (fun (c : Dev nD) _ => bigSep_sep' Finset.univ (fun i : Fin 10 => (atPos ER (kcell (c, i)) 0 ∅ 0 : sProp 𝕄)) (fun i => reached ER (kcell (c, i)) 0)),
    bigSep_sep', ← bigSep_univ_prod (fun ci : Dev nD × Fin 10 => (reached ER (kcell ci) 0 : sProp 𝕄))]
  iintro ⟨HI, ⟨Hat, #HR⟩, Htok⟩
  ihave HK := (BI.bigSep_exists_pi Finset.univ (fun (ci : Dev nD × Fin 10) (κ : ℕ) => (cellInv ER (exch m σ) κ (kcell ci) : sProp 𝕄))) $$ HI
  icases HK with ⟨%K, #HI⟩
  ihave Htk := (toks_dealt (F := F) σ) $$ Htok
  iapply (share_persistent (R := records m σ K) (Φ := fun c => iprop(atAll c ∗ payToks σ c)) fun c _ => show _ ⊢ G' m σ c from by
    unfold G' ghost
    iintro H
    iexists K; iexact H)
  isplitr
  · unfold records; isplitl; · iexact HI
    iexact HR
  · rw [bigSep_sep']
    isplitl [Hat]
    · have hat : (bigSep Finset.univ fun c : Dev nD => bigSep Finset.univ fun i : Fin 10 => (atPos ER (kcell (c, i)) 0 ∅ 0 : sProp 𝕄))
          ⊢ bigSep Finset.univ fun c : Dev nD => (atAll c : sProp 𝕄) := bigSep_mono fun c _ => at_of c
      iapply hat; iexact Hat
    iexact Htk

/-- The global step: every device's counters at once. -/
theorem glob : (bigSep Finset.univ fun c => iprop(Pipeline.ownSems0 (Ix := Unit) (Name := ℕ) (U := UU) (Lvl := ℕ) (Val := Elt F) (τ := τ) osem c ∗ unscopedSems0 c ∗ G m σ c) : sProp 𝕄)
    ⊢ |={Set.univ}=> bigSep Finset.univ (G' m σ) :=
  ((bigSep_mono fun c _ => core_alloc m σ c).trans (bigSep_fupd _ _)).trans (BI.fupd_mono (regroup m σ))

/-! ## The launch credits -/

theorem bar_bar (a b : Dev nD) : (barCell a = barCell b) = (a = b) :=
  propext ⟨fun h => congrArg (fun g : GSem nD τ sig => g.1.1) h, fun h => h ▸ rfl⟩
theorem ack_ack (a b : Dev nD) : (ackCell a = ackCell b) = (a = b) :=
  propext ⟨fun h => congrArg (fun g : GSem nD τ sig => g.1.1) h, fun h => h ▸ rfl⟩
theorem rcv_inj (k j : Fin 4) : (rcvQ k = rcvQ j) = (k = j) :=
  propext ⟨fun h => by
    have h3 := congrArg Fin.val h
    rw [rcv_val, rcv_val] at h3
    exact Fin.ext (by omega), fun h => by rw [h]⟩
theorem rcv_rcv (k j : Fin 4) (a b : Dev nD) : (rcvCell k a = rcvCell j b) = (k = j ∧ a = b) :=
  propext ⟨fun h => ⟨(rcv_inj k j).mp (SemLoc.dma.inj (congrArg Prod.snd h)), congrArg (fun g : GSem nD τ sig => g.1.1) h⟩, fun h => by rw [h.1, h.2]⟩
theorem bar_ack (a b : Dev nD) : (barCell a = ackCell b) = False := eq_false fun h => ack_ne_bar (SemLoc.reg.inj (congrArg Prod.snd h)).symm
theorem ack_bar (a b : Dev nD) : (ackCell a = barCell b) = False := eq_false fun h => ack_ne_bar (SemLoc.reg.inj (congrArg Prod.snd h))
theorem bar_rcv (k : Fin 4) (a b : Dev nD) : (barCell a = rcvCell k b) = False := eq_false fun h => by cases congrArg Prod.snd h
theorem ack_rcv (k : Fin 4) (a b : Dev nD) : (ackCell a = rcvCell k b) = False := eq_false fun h => by cases congrArg Prod.snd h
theorem rcv_bar (k : Fin 4) (a b : Dev nD) : (rcvCell k a = barCell b) = False := eq_false fun h => by cases congrArg Prod.snd h
theorem rcv_ack (k : Fin 4) (a b : Dev nD) : (rcvCell k a = ackCell b) = False := eq_false fun h => by cases congrArg Prod.snd h

/-- One device in all is sent to `c`. -/
theorem sum_perm (e : Equiv.Perm (Dev nD)) (c : Dev nD) (n : ℕ) : (∑ d : Dev nD, if c = e d then n else 0) = n := by
  rw [Finset.sum_congr rfl fun d _ => if_congr (show c = e d ↔ d = e.symm c from by rw [Equiv.eq_symm_apply]; exact eq_comm) rfl rfl,
    Finset.sum_ite_eq' Finset.univ (e.symm c) fun _ => n, if_pos (Finset.mem_univ _)]

theorem owed_bar (d c : Dev nD) : O₀ σ d (barCell c) () = (if c = σ.symm d then 1 else 0) + (if c = σ d then 1 else 0) := by
  rw [owed_apply]
  simp only [bar_ack, bar_rcv, bar_bar, if_false, Nat.zero_add]
theorem owed_ack (d c : Dev nD) : O₀ σ d (ackCell c) () = if c = σ.symm d then 1 else 0 := by
  rw [owed_apply]
  simp only [ack_ack, ack_rcv, ack_bar, if_false, Nat.add_zero]
theorem owed_rcv (k : Fin 4) (d c : Dev nD) : O₀ σ d (rcvCell k c) () = if c = σ d then N else 0 := by
  rw [owed_apply]
  simp only [rcv_ack, rcv_rcv, rcv_bar, if_false, Nat.zero_add, Nat.add_zero]
  have h : k = 0 ∨ k = 1 ∨ k = 2 ∨ k = 3 := by revert k; decide
  rcases h with rfl | rfl | rfl | rfl <;> simp

theorem launch_bar (c : Dev nD) :
    tallyOn (barCell c) (launchCredit (Pipeline.owing (O₀ σ)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar σ d c, Finset.sum_add_distrib, sum_perm, sum_perm]
theorem launch_ack (c : Dev nD) :
    tallyOn (ackCell c) (launchCredit (Pipeline.owing (O₀ σ)) 0 (ackCell c)) = (tallyAt (ackCell c) () 1 : CellTallies nD τ sig Unit) := by
  unfold tallyAt; refine congrArg _ (Finsupp.ext fun u => ?_); cases u
  rw [Pipeline.launchCredit_owing, Finsupp.single_eq_same, Finset.sum_congr rfl fun d _ => owed_ack σ d c, sum_perm]
theorem launch_rcv (k : Fin 4) (c : Dev nD) :
    tallyOn (rcvCell k c) (launchCredit (Pipeline.owing (O₀ σ)) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owed_rcv σ k d c, sum_perm]

/-- The launch credits of a device hold those it waits with. -/
theorem creds_of (c : Dev nD) : (Pipeline.launchCred (O₀ σ) c : sProp 𝕄) ⊢ creds c := by
  unfold Pipeline.launchCred creds
  rw [← launch_bar σ c, ← launch_ack σ c, ← launch_rcv σ 0 c, ← launch_rcv σ 1 c, ← launch_rcv σ 2 c, ← launch_rcv σ 3 c]
  refine (BI.bigSep_subset (t := [SemLoc.reg barS, .reg ackS, .dma (rcvQ 0), .dma (rcvQ 1), .dma (rcvQ 2), .dma (rcvQ 3)].toFinset) (Finset.subset_univ _)).trans ?_
  rw [bigSep_eq_bigSepL_of_eq [SemLoc.reg barS, .reg ackS, .dma (rcvQ 0), .dma (rcvQ 1), .dma (rcvQ 2), .dma (rcvQ 3)] rfl (by decide)]
  exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> iprop(start m σ c ∗ emp) := by
  iintro ⟨-, Hlev, Hcr, -, HG⟩
  ihave Hc := (creds_of (F := F) σ c) $$ Hcr
  imodintro
  unfold start G'
  isplitl
  · isplitl [HG]; · iexact HG
    isplitl [Hc] <;> iassumption
  · iempintro

theorem phi0_intro (c : Dev nD) :
    iprop(start m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = Φ₀ m σ c from rfl, scopedRest0_eq]
  unfold Φ₀
  iintro ⟨Hs, -, Hr⟩
  isplitl [Hs] <;> iassumption

theorem phi1_exit (c : Dev nD) :
    (dats m σ 0 c).Φ (Fin.last cfg0.N) ⊢ iprop(unscopedSems0 c ∗ Pipeline.ownSems0 osem c ∗ Pipeline.scopedRest cfg0.spec c) := by
  rw [show (dats m σ 0 c).Φ (Fin.last cfg0.N) = Φ₁ m c from rfl, scopedRest0_eq, ownSems0_eq, unscopedSems0_eq]
  unfold Φ₁ zeros
  iintro ⟨Hr, HB, HA, ⟨S0, S1, S2, S3⟩, HV⟩
  isplitl [HB]; · iexact HB
  isplitl [HA S0 S1 S2 S3 HV]
  · isplitl [HA]; · iexact HA
    isplitl [S0]; · iexact S0
    isplitl [S1]; · iexact S1
    isplitl [S2]; · iexact S2
    isplitl [S3] <;> iassumption
  iexists flat (xstg m c); iexact Hr

theorem waits (c : Dev nD) : (levAts L lv : sProp 𝕄) ⊢ Pipeline.cellsWaits cfgs (dats m σ) () 0 c :=
  Pipeline.cellsWaits_intro cfgs (dats m σ) () 0 c fun w s t =>
    mayWait_stage σ c _ (by fin_cases w <;> fin_cases s <;> decide) _ (by
      rcases t with ⟨_ | _, ht⟩
      · exact Or.inl rfl
      · exact Or.inr rfl)

/-! ## The run -/

/-- The contents of a window's array after the run. -/
def finalA (c : Dev nD) (w : Fin cfg0.W) : Buf (Elt F) ((cfg0.win w).arr.view.loc (c : Thread nD τ)) := (dats m σ 0 c).arrAt w cfg0.N

set_option maxRecDepth 8000 in
/-- Whatever the float values, from any memory whose tables all route by one permutation: the program terminates, every
    window's array ends at its computed contents, every counter at zero. -/
theorem run_arrays (h : Routed m σ) :
    θ_run defs (onTc (τ := τ) (main (F := F))) ⟨m, fun _ => 0, ρ⟩
      (fun r => (∀ c : Dev nD, ∀ w : Fin cfg0.W, r.2.mem ((cfg0.win w).arr.view.loc (c : Thread nD τ)) = finalA m σ c w) ∧ r.2.sem = fun _ => 0) :=
  Pipeline.θ_run_region_owing_glob_pf (fun p => (cfgs p).toPCfg) (fun p => (cfgs p).toPCfg_adm) (dats m σ) () cellOf_inj (0 : Fin 1)
    winFacts0.to₀ ownSemFacts (Pipeline.PreFacts.none _) EP defs₀ 𝒱₀ m ρ main
    (hmain := fun _ => rfl)
    (hbody := body_obligation m σ h) (hne := fun w => by fin_cases w <;> exact Nat.succ_pos _) (harr := arr_whole0) (hstage := stage_whole0) (hshare := share_eq m σ)
    (hdistinct := winFacts0.arr_inj)
    (O₀ := O₀ σ) (howed₀ := fun _ => rfl) (howedN := fun _ => rfl)
    (L := L) (lv := lv) (hL := L_of_ne) (hwaits := waits m σ)
    (G := G m σ) (G' := G' m σ) (u₀ := u₀)
    (hu₀ := by
      unfold u₀
      iintro Hu
      ihave H := (ownU_pair _ _) $$ Hu
      icases H with ⟨HP, HX⟩
      imod (fund_all m σ) $$ HX with HG
      imodintro
      isplitl [HP] <;> iassumption)
    (hglob := glob m σ)
    (hA := fun _ _ => rfl) (hpf := fun _ k => k.elim0)
    (X := start m σ) (Y := fun c => unscopedSems0 c) (Z := fun _ => iprop(emp))
    (hX := start_intro m ρ σ) (hin := phi0_intro m σ) (hout := phi1_exit m σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The table after the run holds what it held; -/
theorem finalA_table (c : Dev nD) : finalA m σ c (0 : Fin 3) = m (win0_0.arr.view.loc (c : Thread nD τ)) :=
  (dats (F := F) m σ 0 c).arrAt_in (0 : Fin 3) rfl _
/-- and so does the block to send. -/
theorem finalA_x (c : Dev nD) : finalA m σ c (1 : Fin 3) = m (win0_1.arr.view.loc (c : Thread nD τ)) :=
  (dats (F := F) m σ 0 c).arrAt_in (1 : Fin 3) rfl _
/-- The result array ends at the block of the device that sends here. -/
theorem finalA_out (c : Dev nD) : finalA m σ c (2 : Fin 3) = m ((σ.symm c : Thread nD τ).loc main_arg0) := by
  have hz : (fun a => (win0_2.index t₀) a * main_v1.ty.shape.size a) = fun _ => 0 := funext fun a => by fin_cases a <;> decide
  have hr := fun f => Memref.read_access_unit_zero (Elt F) main_v1 hz (fun a => by fin_cases a <;> decide) f
  have hz1 : (fun a => (win0_1.index t₀) a * main_arg0.ty.shape.size a) = fun _ => 0 := funext fun a => by fin_cases a <;> decide
  have hr1 := fun f => Memref.read_access_unit_zero (Elt F) main_arg0 hz1 (fun a => by fin_cases a <;> decide) f
  have ho : (win0_2.blk t₀).view.read (Elt F) (finalA m σ c (2 : Fin 3)) = xstg m (σ.symm c) := by
    unfold finalA
    rw [show cfg0.N = (t₀ : Fin cfg0.N).val + 1 from rfl, (dats m σ 0 c).arrAt_succ (2 : Fin 3) t₀,
      show (cfg0.win (2 : Fin 3)).flush t₀ = true from by decide, if_pos rfl]
    exact View.read_write_univ _ _
  unfold xstg at ho
  exact (hr _).symm.trans (ho.trans (hr1 _))

/-- The run: the result of each device is the block of the device that sends to it, the arguments are unchanged, and
    every counter is zero again. -/
theorem run_main (h : Routed m σ) :
    θ_run defs (onTc (τ := τ) (main (F := F))) ⟨m, fun _ => 0, ρ⟩
      (fun r => (∀ c : Dev nD, r.2.mem ((c : Thread nD τ).loc main_v1) = m ((σ.symm c : Thread nD τ).loc main_arg0)
          ∧ r.2.mem ((c : Thread nD τ).loc main_arg0) = m ((c : Thread nD τ).loc main_arg0)
          ∧ r.2.mem ((c : Thread nD τ).loc main_arg1) = m ((c : Thread nD τ).loc main_arg1)) ∧ r.2.sem = fun _ => 0) :=
  (θ_run defs _ _).mono (fun _ hr => ⟨fun c => ⟨(hr.1 c (2 : Fin 3)).trans (finalA_out m σ c), (hr.1 c (1 : Fin 3)).trans (finalA_x m σ c),
    (hr.1 c (0 : Fin 3)).trans (finalA_table m σ c)⟩, hr.2⟩) (run_arrays m ρ σ h)

end Cert.Route

end
-- ==== Proof.Table.lean ====
/-
The tables of the claims: word `j` of the table rolled by `k` places is `(j + w) mod 32`, for `w = 32 - k`. A memory in
which every device holds that table is routed by a turn of the devices.
-/
module

public import proofs.«01_k».proof.Proof.Search

@[expose] public section

noncomputable section

namespace Cert.Route

open Cert.KernelIdeal Cert.KernelIdeal.Gen
open Idealize.ShloMosaic
open Idealize.ShloMosaic.TcCoe
open Idealize.ShloMosaic.ValueIdx

variable {F : FTy → Type} [FloatOps F]

/-- The turn of the 32 devices by `w`: device `j` goes to device `(j + w) mod 32`. -/
def turn (w : BitVec 32) : Equiv.Perm (Dev nD) where
  toFun j := ⟨(j.val + w.toNat) % 32, Nat.mod_lt _ (by decide)⟩
  invFun j := ⟨(j.val + (32 - w.toNat % 32)) % 32, Nat.mod_lt _ (by decide)⟩
  left_inv j := Fin.ext (by have h : j.val < 32 := j.isLt; show ((j.val + w.toNat) % 32 + (32 - w.toNat % 32)) % 32 = j.val; omega)
  right_inv j := Fin.ext (by have h : j.val < 32 := j.isLt; show ((j.val + (32 - w.toNat % 32)) % 32 + w.toNat) % 32 = j.val; omega)

theorem turn_val (w : BitVec 32) (j : Dev nD) : (turn w j).val = (j.val + w.toNat) % 32 := rfl

/-- The low five bits of `j + w` name the device to which the turn by `w` takes device `j`. -/
theorem turn_word (w : BitVec 32) (j : Dev nD) : IntOp.andi (BitVec.ofNat 32 j.val + w) 31#32 = devWord (turn w j) := by
  apply BitVec.eq_of_toNat_eq
  rw [devWord_toNat, turn_val]
  show (BitVec.ofNat 32 j.val + w).toNat &&& 31 = _
  have e : ∀ n : Nat, n &&& 31 = n % 32 := fun n => Nat.and_two_pow_sub_one_eq_mod n 5
  rw [e, BitVec.toNat_add, Nat.mod_mod_of_dvd _ (by decide : 32 ∣ 2 ^ 32)]
  have h := devWord_toNat j
  rw [show (BitVec.ofNat 32 j.val).toNat = j.val from h]

/-- The predicate on one table, for any `w`: where it is all ones, word `j` of the table names the device to which the
    turn by `w` takes device `j`. -/
theorem words_of_pred (w : BitVec 32) (t : IVec S32 32)
    (h : cmpi .eq t (andi (addi (iotaInDim S32 32 0) (fun _ => w)) (fun _ => 31#32)) = fun _ => 1#1) (j : Dev nD) :
    t (ix1 j) = devWord (turn w j) := by
  have e : IntOp.cmpi .eq (t (ix1 j)) (IntOp.andi (BitVec.ofNat 32 j.val + w) 31#32) = 1#1 := congrFun h (ix1 j)
  rw [turn_word] at e
  by_contra hne
  have : IntOp.cmpi .eq (t (ix1 j)) (devWord (turn w j)) = 0#1 := by
    show BitVec.ofBool (t (ix1 j) == devWord (turn w j)) = 0#1
    rw [beq_eq_false_iff_ne.mpr hne]; rfl
  rw [this] at e
  exact absurd e (by decide)

/-- If the predicate holds of every device's table, the memory is routed by the turn by `w`. -/
theorem routed_of_pred (w : BitVec 32) (m : (ℓ : Loc nD τ sig) → Buf (Elt F) ℓ)
    (h : ∀ c : Dev nD, cmpi .eq (m ((c.tc : Thread nD τ).loc main_arg1) : IVec S32 32)
      (andi (addi (iotaInDim S32 32 0) (fun _ => w)) (fun _ => 31#32)) = fun _ => 1#1) : Routed m (turn w) :=
  fun c j => words_of_pred w _ (h c) j

end Cert.Route

end
-- ==== Proof.RefValue.lean ====
/-
The reference's value where the table is a permutation: the stable argsort of the table is the permutation's inverse, so
row `j` of the result is the row of `x` whose table word names `j`.
-/
module

public import proofs.«01_k».proof.Proof.Gen.ReferenceIdeal
public import proofs.«01_k».proof.Proof.Gen.ReferenceIdeal.Run
public import Idealize.ShloMosaic.Lib.SortFacts
public import Idealize.ShloMosaic.Lib.ValueIdx

@[expose] public section

noncomputable section

namespace Cert.RefValue

open Cert.ReferenceIdeal Cert.ReferenceIdeal.Gen
open Idealize.ShloMosaic Idealize.ShloMosaic.TcCoe Idealize.SL.Sem
open Idealize.ShloMosaic.ValueIdx

variable {F : FTy → Type} [FloatOps F]

/-- The comparator on the words of two numbers below 32 is the order of the numbers. -/
theorem less_words (a b : Fin 32) (u v : BitVec 32) :
    (comparator_i32_i32_d0 (BitVec.ofNat 32 a.val, u) (BitVec.ofNat 32 b.val, v) == 1#1) = decide (a < b) := by
  show (IntOp.cmpi .slt (BitVec.ofNat 32 a.val) (BitVec.ofNat 32 b.val) == 1#1) = decide (a < b)
  revert a b; decide

/-- The positions of a permutation's words, sorted by them, are its inverse's values in turn. -/
theorem sorted_at {n : Nat} (σ : Equiv.Perm (Fin n)) (j : Fin n) : sortedFrom (fun a b : Fin n => decide (σ a < σ b)) j = σ.symm j := by
  unfold sortedFrom
  have h : sortPositions n (fun a b => decide (σ a < σ b)) = List.ofFn σ.symm := sortPositions_of_perm σ.symm
  rw [List.get_of_eq h]
  simp

/-- The argsort of a table that holds a permutation, read at `j`: the place of the word `j`. -/
theorem argsort_at (σ : Equiv.Perm (Fin 32)) (t : IVec S32 32) (ht : ∀ j : Fin 32, t (ix1 j) = BitVec.ofNat 32 (σ j).val) (j : Fin 32) :
    (Host.sort2 S32 0 comparator_i32_i32_d0 t (iotaInDim S32 32 0)).2 (ix1 j) = BitVec.ofNat 32 (σ.symm j).val := by
  have e : ∀ k : Fin 32, (ix1 j : S32.Idx).along (0 : Fin 1) k = ix1 k := fun k => by
    rw [Shape.Idx.along_rank1]; funext a; fin_cases a; rfl
  have hb : (fun k k' : Fin 32 => comparator_i32_i32_d0 (t ((ix1 j : S32.Idx).along (0 : Fin 1) k), iotaInDim S32 32 0 ((ix1 j : S32.Idx).along (0 : Fin 1) k))
      (t ((ix1 j : S32.Idx).along (0 : Fin 1) k'), iotaInDim S32 32 0 ((ix1 j : S32.Idx).along (0 : Fin 1) k')) == 1#1)
      = fun k k' => decide (σ k < σ k') := by
    funext k k'; rw [e, e, ht, ht]; exact less_words _ _ _ _
  exact congrArg (fun k : Fin 32 => (iotaInDim S32 32 0 ((ix1 j : S32.Idx).along (0 : Fin 1) k) : BitVec 32))
    ((congrArg (fun B : Fin 32 → Fin 32 → Bool => sortedFrom B j) hb).trans (sorted_at σ j)) |>.trans (by rw [e]; rfl)

/-- An index below 32 is not negative, so that the correction of negative indices leaves it. -/
theorem index_at (r : IVec S32 32) (i : Fin 32) (j : Fin 32) (hr : r (ix1 j) = BitVec.ofNat 32 i.val) :
    select (cmpi .slt r (broadcastInDim S32 ![] bcast_S_S32 (constantI S_ 32 0#32)))
      (addi r (broadcastInDim S32 ![] bcast_S_S32 (constantI S_ 32 32#32))) r (ix1 j) = BitVec.ofNat 32 i.val := by
  show Scalar.select (IntOp.cmpi .slt (r (ix1 j)) 0#32) (r (ix1 j) + 32#32) (r (ix1 j)) = _
  rw [hr]
  clear hr r j
  revert i; decide

/-- The gather of whole rows, read at an index: the row that the start index names, at the same place of the row. -/
theorem rows_at {α : Type} (x : S32x512x512.Idx → α) (idx : IVec S32x1 32) (i : Fin 32) (j : Fin 32) (a b : Fin 512)
    (hi : idx (ix2 j 0) = BitVec.ofNat 32 i.val) :
    Host.gather gather_S32x512x512_S32x1_S32x512x512_12_0_n_n_0_1_1512512 x idx (ix3 j a b) = x (ix3 i a b) := by
  unfold Host.gather
  congr 1
  funext k
  refine Fin.ext ?_
  have hb : ∀ k : Fin 3, gather_S32x512x512_S32x1_S32x512x512_12_0_n_n_0_1_1512512.batchCoord (ix3 j a b) k = 0 := fun k =>
    GatherDims.batchCoord_eq_zero _ _ _ List.not_mem_nil
  match k with
  | ⟨0, _⟩ =>
    show GatherDims.start gather_S32x512x512_S32x1_S32x512x512_12_0_n_n_0_1_1512512 (ix3 j a b) idx (0 : Fin 3)
      + GatherDims.batchCoord gather_S32x512x512_S32x1_S32x512x512_12_0_n_n_0_1_1512512 (ix3 j a b) (0 : Fin 3)
      + GatherDims.offCoord gather_S32x512x512_S32x1_S32x512x512_12_0_n_n_0_1_1512512 (ix3 j a b) (0 : Fin 3) = i.val
    rw [hb, GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x512x512_S32x1_S32x512x512_12_0_n_n_0_1_1512512.startIndexMap from List.mem_singleton.mpr rfl)]
    have hsi : gather_S32x512x512_S32x1_S32x512x512_12_0_n_n_0_1_1512512.siIdx (ix3 j a b)
        ⟨List.idxOf (0 : Fin 3) gather_S32x512x512_S32x1_S32x512x512_12_0_n_n_0_1_1512512.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi, hi]
    show min (BitVec.ofNat 32 i.val).toInt.toNat 31 = i.val
    clear hi hb hsi
    revert i; decide
  | ⟨1, _⟩ =>
    show GatherDims.start gather_S32x512x512_S32x1_S32x512x512_12_0_n_n_0_1_1512512 (ix3 j a b) idx (1 : Fin 3)
      + GatherDims.batchCoord gather_S32x512x512_S32x1_S32x512x512_12_0_n_n_0_1_1512512 (ix3 j a b) (1 : Fin 3)
      + GatherDims.offCoord gather_S32x512x512_S32x1_S32x512x512_12_0_n_n_0_1_1512512 (ix3 j a b) (1 : Fin 3) = a.val
    rw [hb]
    unfold GatherDims.start
    rw [dif_neg (show (1 : Fin 3) ∉ gather_S32x512x512_S32x1_S32x512x512_12_0_n_n_0_1_1512512.startIndexMap by decide), Nat.zero_add]
    rfl
  | ⟨2, _⟩ =>
    show GatherDims.start gather_S32x512x512_S32x1_S32x512x512_12_0_n_n_0_1_1512512 (ix3 j a b) idx (2 : Fin 3)
      + GatherDims.batchCoord gather_S32x512x512_S32x1_S32x512x512_12_0_n_n_0_1_1512512 (ix3 j a b) (2 : Fin 3)
      + GatherDims.offCoord gather_S32x512x512_S32x1_S32x512x512_12_0_n_n_0_1_1512512 (ix3 j a b) (2 : Fin 3) = b.val
    rw [hb]
    unfold GatherDims.start
    rw [dif_neg (show (2 : Fin 3) ∉ gather_S32x512x512_S32x1_S32x512x512_12_0_n_n_0_1_1512512.startIndexMap by decide), Nat.zero_add]
    rfl

/-- The places of the table's words in order, as the reference's argsort finds them. -/
def places (t : IVec S32 32) : IVec S32 32 := (Host.sort2 S32 0 comparator_i32_i32_d0 t (iotaInDim S32 32 0)).2

/-- The start indices of the reference's gather: the places, with negative ones corrected, as a column. -/
def starts (t : IVec S32 32) : IVec S32x1 32 :=
  broadcastInDim S32x1 ![0] bcast_S32_S32x1_0
    (select (cmpi .slt (places t) (broadcastInDim S32 ![] bcast_S_S32 (constantI S_ 32 0#32)))
      (addi (places t) (broadcastInDim S32 ![] bcast_S_S32 (constantI S_ 32 32#32))) (places t))

/-- Where the table holds the permutation `σ`, start index `j` is `σ⁻¹ j`. -/
theorem starts_at (σ : Equiv.Perm (Fin 32)) (t : IVec S32 32) (ht : ∀ j : Fin 32, t (ix1 j) = BitVec.ofNat 32 (σ j).val) (j : Fin 32) :
    starts t (ix2 j 0) = BitVec.ofNat 32 (σ.symm j).val := by
  have hi := index_at (places t) (σ.symm j) j (argsort_at σ t ht j)
  unfold starts
  generalize select (cmpi .slt (places t) (broadcastInDim S32 ![] bcast_S_S32 (constantI S_ 32 0#32)))
      (addi (places t) (broadcastInDim S32 ![] bcast_S_S32 (constantI S_ 32 32#32))) (places t) = v at hi ⊢
  refine Eq.trans (congrArg v ?_) hi
  funext d; fin_cases d; rfl

/-- The reference's result as a function of its arguments. -/
def refOut (x : FVec F S32x512x512 .bf16) (t : IVec S32 32) : FVec F S32x512x512 .bf16 :=
  truncf .bf16 (extf .f32 (Host.gather gather_S32x512x512_S32x1_S32x512x512_12_0_n_n_0_1_1512512 x (starts t)) bitsLt_bf16_f32) bitsLt_bf16_f32

/-- The reference's run: its result holds `refOut` of the arguments, which are unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold refOut starts places
  exact Cert.ReferenceIdeal.Value.run m ρ

/-- Over the extended reals, where the table holds the permutation `σ`: block `j` of the reference's result is the block
    of `x` at the place `σ⁻¹ j`. -/
theorem refOut_at (σ : Equiv.Perm (Fin 32)) (x : FVec Ideal S32x512x512 .bf16) (t : IVec S32 32)
    (ht : ∀ j : Fin 32, t (ix1 j) = BitVec.ofNat 32 (σ j).val) (j : Fin 32) (a b : Fin 512) :
    refOut x t (ix3 j a b) = x (ix3 (σ.symm j) a b) := by
  have e : refOut x t = Host.gather gather_S32x512x512_S32x1_S32x512x512_12_0_n_n_0_1_1512512 x (starts t) := by
    unfold refOut
    generalize Host.gather gather_S32x512x512_S32x1_S32x512x512_12_0_n_n_0_1_1512512 x (starts t) = v
    rfl
  rw [e]
  exact rows_at x (starts t) (σ.symm j) j a b (starts_at σ t ht j)

end Cert.RefValue

end
-- ==== Proof.Equation.lean ====
/-
The equation: under the predicate on the tables, device `c`'s result is block `c` of the reference's result. Here also the
frames' common form.
-/
module

public import proofs.«01_k».proof.Proof.Launch
public import proofs.«01_k».proof.Proof.Table
public import proofs.«01_k».proof.Proof.RefValue

@[expose] public section

noncomputable section

namespace Cert.Route

open Idealize.ShloMosaic Idealize.ShloMosaic.TcCoe Idealize.SL.Sem
open Idealize.ShloMosaic.ValueIdx

/-- Block `c` of an array of 32 blocks, read at an index: the array's row `c` at the same place. -/
theorem block_at {α : Type} (c : Fin 32) (v : (⟨3, ![32, 512, 512]⟩ : Shape).Idx → α) (i : (⟨3, ![1, 512, 512]⟩ : Shape).Idx) :
    Layout.block ⟨3, ![1, 512, 512]⟩ ⟨3, ![32, 512, 512]⟩ 0 32 c v (by decide) i = v (ix3 c (i 1) (i 2)) := by
  rw [Layout.block_apply]
  congr 1
  funext b
  refine Fin.ext ?_
  rw [Layout.Tiles.idx_val]
  have h0 : (i 0).val = 0 := Nat.lt_one_iff.mp (i 0).isLt
  match b with
  | ⟨0, _⟩ => show c.val * 1 + (i 0).val = c.val; omega
  | ⟨1, _⟩ => rfl
  | ⟨2, _⟩ => rfl

/-- The predicate on one table, with the constant `w`. -/
abbrev Rolled (w : BitVec 32) (t : IVec Cert.KernelIdeal.S32 32) : Prop :=
  cmpi .eq t (andi (addi (iotaInDim Cert.KernelIdeal.S32 32 0) (fun _ => w)) (fun _ => 31#32)) = fun _ => 1#1

section
open Cert.KernelIdeal Cert.KernelIdeal.Gen
variable {F : FTy → Type} [FloatOps F]

/-- The frame, over any float values: if every device's table holds the permutation `σ`, whichever it is, the program
    terminates without fault, leaves its arguments unchanged, and every counter ends at zero. -/
theorem frame_of (σ : Equiv.Perm (Dev nD)) (m : (ℓ : Loc nD τ sig) → Buf (Elt F) ℓ) (ρ : Dev nD → PrngReg)
    (h : Routed m σ) :
    θ_run defs (onTc (τ := τ) (main (F := F))) ⟨m, fun _ => 0, ρ⟩
      (fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)) ∧ r.2.sem = fun _ => 0) :=
  (θ_run defs _ _).mono (fun _ hr => ⟨fun c => (hr.1 c).2, hr.2⟩) (run_main m ρ σ h)
end

/-- The reference terminates without fault, leaves its arguments unchanged, and every counter ends at zero. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => (∀ c : Dev Cert.ReferenceIdeal.nD,
          r.2.mem ((c.tc : Thread _ Cert.ReferenceIdeal.τ).loc Cert.ReferenceIdeal.main_arg0) = m ((c.tc : Thread _ _).loc Cert.ReferenceIdeal.main_arg0)
          ∧ r.2.mem ((c.tc : Thread _ Cert.ReferenceIdeal.τ).loc Cert.ReferenceIdeal.main_arg1) = m ((c.tc : Thread _ _).loc Cert.ReferenceIdeal.main_arg1))
        ∧ r.2.sem = fun _ => 0) :=
  (θ_run _ _ _).mono (fun r h => ⟨fun c => (h c).2, sem_eq_zero_of_no_sems (by decide) r.2⟩) (Cert.RefValue.run_ref m ρ)

/-- Over the extended reals, where every device's table holds the permutation `σ`, whichever it is, and the kernel's
    arguments are the parts of the reference's: device `c`'s result is block `c` of the reference's result. -/
theorem agree_of (σ : Equiv.Perm (Dev Cert.KernelIdeal.nD))
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (hr : Routed m σ)
    (hag : ∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht : ∀ j : Fin 32, (m' (((0 : Dev Cert.ReferenceIdeal.nD).tc : Thread Cert.ReferenceIdeal.nD Cert.ReferenceIdeal.τ).loc Cert.ReferenceIdeal.main_arg1) : IVec Cert.ReferenceIdeal.S32 32) (ix1 j)
      = BitVec.ofNat 32 (σ j).val := fun j =>
    (congrFun (hag (0 : Fin 32)).2 (ix1 j)).symm.trans (hr (0 : Fin 32) j)
  refine ⟨_, (θ_run _ _ _).mono (fun r hk c => ⟨(hk.1 c).1.trans ?_, (hk.1 c).2⟩) (run_main m g σ hr),
    (θ_run _ _ _).mono (fun r hf => hf 0) (Cert.RefValue.run_ref m' g')⟩
  refine (hag (σ.symm c)).1.trans ?_
  funext i
  exact (block_at (σ.symm c) _ i).trans
    ((Cert.RefValue.refOut_at σ _ _ ht c (i 1) (i 2)).symm.trans (block_at c _ i).symm)

end Cert.Route

end
-- ==== Proof.lean ====
/-
The claims, put together. The kernel sends each device's block to the device that its routing table names; the table is
the identity's, rolled by `k` places, for each `k` from 0 to 31. Every claim is an instance, at one `k`, of `frame_of`
(the frame of either kernel program), `frame_ref` (the reference's) or `agree_of` (the value), all three in
Proof/Equation.lean.
-/
module

public import proofs.«01_k».proof.Defs
public import proofs.«01_k».proof.Proof.Equation
public import proofs.«01_k».proof.Proof.Gen.Kernel
public import proofs.«01_k».proof.Proof.Gen.Pre_rolled_by_0_Kernel
public import proofs.«01_k».proof.Proof.Gen.Pre_rolled_by_0_ReferenceIdeal
public import proofs.«01_k».proof.Proof.Gen.Pre_rolled_by_1_Kernel
public import proofs.«01_k».proof.Proof.Gen.Pre_rolled_by_1_ReferenceIdeal
public import proofs.«01_k».proof.Proof.Gen.Pre_rolled_by_2_Kernel
public import proofs.«01_k».proof.Proof.Gen.Pre_rolled_by_2_ReferenceIdeal
public import proofs.«01_k».proof.Proof.Gen.Pre_rolled_by_3_Kernel
public import proofs.«01_k».proof.Proof.Gen.Pre_rolled_by_3_ReferenceIdeal
public import proofs.«01_k».proof.Proof.Gen.Pre_rolled_by_4_Kernel
public import proofs.«01_k».proof.Proof.Gen.Pre_rolled_by_4_ReferenceIdeal
public import proofs.«01_k».proof.Proof.Gen.Pre_rolled_by_5_Kernel
public import proofs.«01_k».proof.Proof.Gen.Pre_rolled_by_5_ReferenceIdeal
public import proofs.«01_k».proof.Proof.Gen.Pre_rolled_by_6_Kernel
public import proofs.«01_k».proof.Proof.Gen.Pre_rolled_by_6_ReferenceIdeal
public import proofs.«01_k».proof.Proof.Gen.Pre_rolled_by_7_Kernel
public import proofs.«01_k».proof.Proof.Gen.Pre_rolled_by_7_ReferenceIdeal
public import proofs.«01_k».proof.Proof.Gen.Pre_rolled_by_8_Kernel
public import proofs.«01_k».proof.Proof.Gen.Pre_rolled_by_8_ReferenceIdeal
public import proofs.«01_k».proof.Proof.Gen.Pre_rolled_by_9_Kernel
public import proofs.«01_k».proof.Proof.Gen.Pre_rolled_by_9_ReferenceIdeal
public import proofs.«01_k».proof.Proof.Gen.Pre_rolled_by_10_Kernel
public import proofs.«01_k».proof.Proof.Gen.Pre_rolled_by_10_ReferenceIdeal
public import proofs.«01_k».proof.Proof.Gen.Pre_rolled_by_11_Kernel
public import proofs.«01_k».proof.Proof.Gen.Pre_rolled_by_11_ReferenceIdeal
public import proofs.«01_k».proof.Proof.Gen.Pre_rolled_by_12_Kernel
public import proofs.«01_k».proof.Proof.Gen.Pre_rolled_by_12_ReferenceIdeal
public import proofs.«01_k».proof.Proof.Gen.Pre_rolled_by_13_Kernel
public import proofs.«01_k».proof.Proof.Gen.Pre_rolled_by_13_ReferenceIdeal
public import proofs.«01_k».proof.Proof.Gen.Pre_rolled_by_14_Kernel
public import proofs.«01_k».proof.Proof.Gen.Pre_rolled_by_14_ReferenceIdeal
public import proofs.«01_k».proof.Proof.Gen.Pre_rolled_by_15_Kernel
public import proofs.«01_k».proof.Proof.Gen.Pre_rolled_by_15_ReferenceIdeal
public import proofs.«01_k».proof.Proof.Gen.Pre_rolled_by_16_Kernel
public import proofs.«01_k».proof.Proof.Gen.Pre_rolled_by_16_ReferenceIdeal
public import proofs.«01_k».proof.Proof.Gen.Pre_rolled_by_17_Kernel
public import proofs.«01_k».proof.Proof.Gen.Pre_rolled_by_17_ReferenceIdeal
public import proofs.«01_k».proof.Proof.Gen.Pre_rolled_by_18_Kernel
public import proofs.«01_k».proof.Proof.Gen.Pre_rolled_by_18_ReferenceIdeal
public import proofs.«01_k».proof.Proof.Gen.Pre_rolled_by_19_Kernel
public import proofs.«01_k».proof.Proof.Gen.Pre_rolled_by_19_ReferenceIdeal
public import proofs.«01_k».proof.Proof.Gen.Pre_rolled_by_20_Kernel
public import proofs.«01_k».proof.Proof.Gen.Pre_rolled_by_20_ReferenceIdeal
public import proofs.«01_k».proof.Proof.Gen.Pre_rolled_by_21_Kernel
public import proofs.«01_k».proof.Proof.Gen.Pre_rolled_by_21_ReferenceIdeal
public import proofs.«01_k».proof.Proof.Gen.Pre_rolled_by_22_Kernel
public import proofs.«01_k».proof.Proof.Gen.Pre_rolled_by_22_ReferenceIdeal
public import proofs.«01_k».proof.Proof.Gen.Pre_rolled_by_23_Kernel
public import proofs.«01_k».proof.Proof.Gen.Pre_rolled_by_23_ReferenceIdeal
public import proofs.«01_k».proof.Proof.Gen.Pre_rolled_by_24_Kernel
public import proofs.«01_k».proof.Proof.Gen.Pre_rolled_by_24_ReferenceIdeal
public import proofs.«01_k».proof.Proof.Gen.Pre_rolled_by_25_Kernel
public import proofs.«01_k».proof.Proof.Gen.Pre_rolled_by_25_ReferenceIdeal
public import proofs.«01_k».proof.Proof.Gen.Pre_rolled_by_26_Kernel
public import proofs.«01_k».proof.Proof.Gen.Pre_rolled_by_26_ReferenceIdeal
public import proofs.«01_k».proof.Proof.Gen.Pre_rolled_by_27_Kernel
public import proofs.«01_k».proof.Proof.Gen.Pre_rolled_by_27_ReferenceIdeal
public import proofs.«01_k».proof.Proof.Gen.Pre_rolled_by_28_Kernel
public import proofs.«01_k».proof.Proof.Gen.Pre_rolled_by_28_ReferenceIdeal
public import proofs.«01_k».proof.Proof.Gen.Pre_rolled_by_29_Kernel
public import proofs.«01_k».proof.Proof.Gen.Pre_rolled_by_29_ReferenceIdeal
public import proofs.«01_k».proof.Proof.Gen.Pre_rolled_by_30_Kernel
public import proofs.«01_k».proof.Proof.Gen.Pre_rolled_by_30_ReferenceIdeal
public import proofs.«01_k».proof.Proof.Gen.Pre_rolled_by_31_Kernel
public import proofs.«01_k».proof.Proof.Gen.Pre_rolled_by_31_ReferenceIdeal

@[expose] public section

noncomputable section

namespace Cert.Proof

open Idealize.ShloMosaic Idealize.SL.Sem Cert.Route

/-- The kernel's body at bit patterns is the ideal program's: the two texts are one. -/
theorem body_eq : @Cert.Kernel.cc0_body Bits _ = @Cert.KernelIdeal.cc0_body Bits _ := rfl

/-- So are the bodies of its labels: there is one label, and it runs the body on the staging buffers. -/
theorem bodies_eq : Cert.Kernel.defs₀ (F := Bits) = Cert.KernelIdeal.defs₀ (F := Bits) := by
  refine congrArg Defs.onTc (funext fun l => funext fun a => ?_)
  match l, a with
  | 0, (_, s) =>
    exact congrArg (fun b => b (Cert.Kernel.win0_0.stage (s 0)) (Cert.Kernel.Facts₀.hstage0_0 0)
      (Cert.Kernel.win0_1.stage (s 1)) (Cert.Kernel.Facts₀.hstage0_1 0)
      (Cert.Kernel.win0_2.stage (s 2)) (Cert.Kernel.Facts₀.hstage0_2 0)
      (Memref.whole Cert.Kernel.cc0_scratch0) (Memref.isWhole_whole _)
      Cert.Kernel.cc0_scratch1 Cert.Kernel.cc0_scratch2 Cert.Kernel.cc0_scratch3) body_eq

/-- And so is the table of all its bodies, the pipeline's among them. -/
theorem defs_eq : Cert.Kernel.defs (F := Bits) = Cert.KernelIdeal.defs (F := Bits) :=
  congrArg (Pipeline.defs (Cert.Kernel.pcfgs (F := Bits))) bodies_eq

/-- The frame of the kernel at bit patterns: its text is the ideal program's, so its run is the same run. -/
theorem frame_kernel (w : BitVec 32) (m : (ℓ : Loc Cert.Kernel.nD Cert.Kernel.τ Cert.Kernel.sig) → Buf (Elt Bits) ℓ)
    (g : Dev Cert.Kernel.nD → PrngReg)
    (h : ∀ c : Dev Cert.Kernel.nD, Rolled w (m ((c.tc : Thread Cert.Kernel.nD Cert.Kernel.τ).loc Cert.Kernel.main_arg1))) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq]
  exact frame_of (F := Bits) (turn w) m g (routed_of_pred (F := Bits) w m h)

/-- Every claim, with the side conditions' proofs: the frames of the reference need nothing of the tables, and each claim
    of the kernel takes the constant of its own predicate. -/
theorem claim : Cert.Claim := by
  repeat refine ⟨inferInstance, ?_⟩
  refine And.intro (fun m g _ => frame_ref m g) ?_
  iterate 32 refine And.intro (fun m g _ => frame_ref m g) ?_
  iterate 32 refine And.intro (fun m g h => frame_kernel _ m g h) ?_
  iterate 32 refine And.intro (fun m g h => frame_of (F := Ideal) _ m g (routed_of_pred _ m h)) ?_
  refine And.intro trivial ?_
  iterate 31 refine And.intro (fun m g m' g' h hag => agree_of _ m g m' g' (routed_of_pred _ m h) hag) ?_
  exact fun m g m' g' h hag => agree_of _ m g m' g' (routed_of_pred _ m h) hag

end Cert.Proof

end
